-- ==== Defs.lean ====
def Pre_NormQkv (m : (ℓ : Loc Cert.NormQkv.nD Cert.NormQkv.τ Cert.NormQkv.sig) → Buf (Elt Bits) ℓ) : Prop :=
  True

def Pre_NormQkvIdeal (m : (ℓ : Loc Cert.NormQkvIdeal.nD Cert.NormQkvIdeal.τ Cert.NormQkvIdeal.sig) → Buf (Elt Ideal) ℓ) : Prop :=
  True

def Pre_NormQkvRefIdeal (m : (ℓ : Loc Cert.NormQkvRefIdeal.nD Cert.NormQkvRefIdeal.τ Cert.NormQkvRefIdeal.sig) → Buf (Elt Ideal) ℓ) : Prop :=
  True

def Pre_NormQkvRef (m : (ℓ : Loc Cert.NormQkvRef.nD Cert.NormQkvRef.τ Cert.NormQkvRef.sig) → Buf (Elt Bits) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownRef (m : (ℓ : Loc Cert.DownRef.nD Cert.DownRef.τ Cert.DownRef.sig) → Buf (Elt Bits) ℓ) : Prop :=
  True

def quiescent_NormQkv [hNormQkv : Cert.NormQkv.Facts] : Prop :=
  ∀ (m : (ℓ : Loc Cert.NormQkv.nD Cert.NormQkv.τ Cert.NormQkv.sig) → Buf (Elt Bits) ℓ) (g : Dev Cert.NormQkv.nD → PrngReg), Pre_NormQkv m →
    θ_run (Cert.NormQkv.defs (F := Bits)) (onTc (τ := Cert.NormQkv.τ) (Cert.NormQkv.main (F := Bits))) ⟨m, fun _ => 0, g⟩ (fun r => (∀ c : Dev Cert.NormQkv.nD,
      r.2.mem ((c.tc : Thread Cert.NormQkv.nD Cert.NormQkv.τ).loc Cert.NormQkv.main_arg0) = m ((c.tc : Thread Cert.NormQkv.nD Cert.NormQkv.τ).loc Cert.NormQkv.main_arg0)
      ∧ r.2.mem ((c.tc : Thread Cert.NormQkv.nD Cert.NormQkv.τ).loc Cert.NormQkv.main_arg1) = m ((c.tc : Thread Cert.NormQkv.nD Cert.NormQkv.τ).loc Cert.NormQkv.main_arg1)
      ∧ r.2.mem ((c.tc : Thread Cert.NormQkv.nD Cert.NormQkv.τ).loc Cert.NormQkv.main_arg2) = m ((c.tc : Thread Cert.NormQkv.nD Cert.NormQkv.τ).loc Cert.NormQkv.main_arg2)
      ∧ r.2.mem ((c.tc : Thread Cert.NormQkv.nD Cert.NormQkv.τ).loc Cert.NormQkv.main_arg3) = m ((c.tc : Thread Cert.NormQkv.nD Cert.NormQkv.τ).loc Cert.NormQkv.main_arg3))
      ∧ r.2.sem = fun _ => 0)

def quiescent_NormQkvIdeal [hNormQkvIdeal : Cert.NormQkvIdeal.Facts] : Prop :=
  ∀ (m : (ℓ : Loc Cert.NormQkvIdeal.nD Cert.NormQkvIdeal.τ Cert.NormQkvIdeal.sig) → Buf (Elt Ideal) ℓ) (g : Dev Cert.NormQkvIdeal.nD → PrngReg), Pre_NormQkvIdeal m →
    θ_run (Cert.NormQkvIdeal.defs (F := Ideal)) (onTc (τ := Cert.NormQkvIdeal.τ) (Cert.NormQkvIdeal.main (F := Ideal))) ⟨m, fun _ => 0, g⟩ (fun r => (∀ c : Dev Cert.NormQkvIdeal.nD,
      r.2.mem ((c.tc : Thread Cert.NormQkvIdeal.nD Cert.NormQkvIdeal.τ).loc Cert.NormQkvIdeal.main_arg0) = m ((c.tc : Thread Cert.NormQkvIdeal.nD Cert.NormQkvIdeal.τ).loc Cert.NormQkvIdeal.main_arg0)
      ∧ r.2.mem ((c.tc : Thread Cert.NormQkvIdeal.nD Cert.NormQkvIdeal.τ).loc Cert.NormQkvIdeal.main_arg1) = m ((c.tc : Thread Cert.NormQkvIdeal.nD Cert.NormQkvIdeal.τ).loc Cert.NormQkvIdeal.main_arg1)
      ∧ r.2.mem ((c.tc : Thread Cert.NormQkvIdeal.nD Cert.NormQkvIdeal.τ).loc Cert.NormQkvIdeal.main_arg2) = m ((c.tc : Thread Cert.NormQkvIdeal.nD Cert.NormQkvIdeal.τ).loc Cert.NormQkvIdeal.main_arg2)
      ∧ r.2.mem ((c.tc : Thread Cert.NormQkvIdeal.nD Cert.NormQkvIdeal.τ).loc Cert.NormQkvIdeal.main_arg3) = m ((c.tc : Thread Cert.NormQkvIdeal.nD Cert.NormQkvIdeal.τ).loc Cert.NormQkvIdeal.main_arg3))
      ∧ r.2.sem = fun _ => 0)

def quiescent_NormQkvRefIdeal [hNormQkvRefIdeal : Cert.NormQkvRefIdeal.Facts] : Prop :=
  ∀ (m : (ℓ : Loc Cert.NormQkvRefIdeal.nD Cert.NormQkvRefIdeal.τ Cert.NormQkvRefIdeal.sig) → Buf (Elt Ideal) ℓ) (g : Dev Cert.NormQkvRefIdeal.nD → PrngReg), Pre_NormQkvRefIdeal m →
    θ_run (Cert.NormQkvRefIdeal.defs (F := Ideal)) (onTc (τ := Cert.NormQkvRefIdeal.τ) (Cert.NormQkvRefIdeal.main (F := Ideal))) ⟨m, fun _ => 0, g⟩ (fun r => (∀ c : Dev Cert.NormQkvRefIdeal.nD,
      r.2.mem ((c.tc : Thread Cert.NormQkvRefIdeal.nD Cert.NormQkvRefIdeal.τ).loc Cert.NormQkvRefIdeal.main_arg0) = m ((c.tc : Thread Cert.NormQkvRefIdeal.nD Cert.NormQkvRefIdeal.τ).loc Cert.NormQkvRefIdeal.main_arg0)
      ∧ r.2.mem ((c.tc : Thread Cert.NormQkvRefIdeal.nD Cert.NormQkvRefIdeal.τ).loc Cert.NormQkvRefIdeal.main_arg1) = m ((c.tc : Thread Cert.NormQkvRefIdeal.nD Cert.NormQkvRefIdeal.τ).loc Cert.NormQkvRefIdeal.main_arg1)
      ∧ r.2.mem ((c.tc : Thread Cert.NormQkvRefIdeal.nD Cert.NormQkvRefIdeal.τ).loc Cert.NormQkvRefIdeal.main_arg2) = m ((c.tc : Thread Cert.NormQkvRefIdeal.nD Cert.NormQkvRefIdeal.τ).loc Cert.NormQkvRefIdeal.main_arg2)
      ∧ r.2.mem ((c.tc : Thread Cert.NormQkvRefIdeal.nD Cert.NormQkvRefIdeal.τ).loc Cert.NormQkvRefIdeal.main_arg3) = m ((c.tc : Thread Cert.NormQkvRefIdeal.nD Cert.NormQkvRefIdeal.τ).loc Cert.NormQkvRefIdeal.main_arg3))
      ∧ r.2.sem = fun _ => 0)

def quiescent_NormQkvRef [hNormQkvRef : Cert.NormQkvRef.Facts] : Prop :=
  ∀ (m : (ℓ : Loc Cert.NormQkvRef.nD Cert.NormQkvRef.τ Cert.NormQkvRef.sig) → Buf (Elt Bits) ℓ) (g : Dev Cert.NormQkvRef.nD → PrngReg), Pre_NormQkvRef m →
    θ_run (Cert.NormQkvRef.defs (F := Bits)) (onTc (τ := Cert.NormQkvRef.τ) (Cert.NormQkvRef.main (F := Bits))) ⟨m, fun _ => 0, g⟩ (fun r => (∀ c : Dev Cert.NormQkvRef.nD,
      r.2.mem ((c.tc : Thread Cert.NormQkvRef.nD Cert.NormQkvRef.τ).loc Cert.NormQkvRef.main_arg0) = m ((c.tc : Thread Cert.NormQkvRef.nD Cert.NormQkvRef.τ).loc Cert.NormQkvRef.main_arg0)
      ∧ r.2.mem ((c.tc : Thread Cert.NormQkvRef.nD Cert.NormQkvRef.τ).loc Cert.NormQkvRef.main_arg1) = m ((c.tc : Thread Cert.NormQkvRef.nD Cert.NormQkvRef.τ).loc Cert.NormQkvRef.main_arg1)
      ∧ r.2.mem ((c.tc : Thread Cert.NormQkvRef.nD Cert.NormQkvRef.τ).loc Cert.NormQkvRef.main_arg2) = m ((c.tc : Thread Cert.NormQkvRef.nD Cert.NormQkvRef.τ).loc Cert.NormQkvRef.main_arg2)
      ∧ r.2.mem ((c.tc : Thread Cert.NormQkvRef.nD Cert.NormQkvRef.τ).loc Cert.NormQkvRef.main_arg3) = m ((c.tc : Thread Cert.NormQkvRef.nD Cert.NormQkvRef.τ).loc Cert.NormQkvRef.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRef [hDownRef : Cert.DownRef.Facts] : Prop :=
  ∀ (m : (ℓ : Loc Cert.DownRef.nD Cert.DownRef.τ Cert.DownRef.sig) → Buf (Elt Bits) ℓ) (g : Dev Cert.DownRef.nD → PrngReg), Pre_DownRef m →
    θ_run (Cert.DownRef.defs (F := Bits)) (onTc (τ := Cert.DownRef.τ) (Cert.DownRef.main (F := Bits))) ⟨m, fun _ => 0, g⟩ (fun r => (∀ c : Dev Cert.DownRef.nD,
      r.2.mem ((c.tc : Thread Cert.DownRef.nD Cert.DownRef.τ).loc Cert.DownRef.main_arg0) = m ((c.tc : Thread Cert.DownRef.nD Cert.DownRef.τ).loc Cert.DownRef.main_arg0)
      ∧ r.2.mem ((c.tc : Thread Cert.DownRef.nD Cert.DownRef.τ).loc Cert.DownRef.main_arg1) = m ((c.tc : Thread Cert.DownRef.nD Cert.DownRef.τ).loc Cert.DownRef.main_arg1)
      ∧ r.2.mem ((c.tc : Thread Cert.DownRef.nD Cert.DownRef.τ).loc Cert.DownRef.main_arg2) = m ((c.tc : Thread Cert.DownRef.nD Cert.DownRef.τ).loc Cert.DownRef.main_arg2)
      ∧ r.2.mem ((c.tc : Thread Cert.DownRef.nD Cert.DownRef.τ).loc Cert.DownRef.main_arg3) = m ((c.tc : Thread Cert.DownRef.nD Cert.DownRef.τ).loc Cert.DownRef.main_arg3)
      ∧ r.2.mem ((c.tc : Thread Cert.DownRef.nD Cert.DownRef.τ).loc Cert.DownRef.main_arg4) = m ((c.tc : Thread Cert.DownRef.nD Cert.DownRef.τ).loc Cert.DownRef.main_arg4))
      ∧ r.2.sem = fun _ => 0)

def preserves_NormQkv_NormQkvIdeal : Prop :=
  IdealRules.named_const.Statement Cert.NormQkvIdeal.κ "inv_d" .f32 0x39924925#32 ((1 / 3584 : ℝ) : EReal)

def preserves_NormQkvRef_NormQkvRefIdeal : Prop :=
  IdealRules.named_const.Statement Cert.NormQkvRefIdeal.κ "log2" .f32 0x3F317218#32 ((Real.log 2 : ℝ) : EReal)

def algebraic_NormQkvIdeal_NormQkvRefIdeal [hNormQkvIdeal : Cert.NormQkvIdeal.Facts] [hNormQkvRefIdeal : Cert.NormQkvRefIdeal.Facts] : Prop :=
  ∀ (m : (ℓ : Loc Cert.NormQkvIdeal.nD Cert.NormQkvIdeal.τ Cert.NormQkvIdeal.sig) → Buf (Elt Ideal) ℓ) (g : Dev Cert.NormQkvIdeal.nD → PrngReg)
    (m' : (ℓ : Loc Cert.NormQkvRefIdeal.nD Cert.NormQkvRefIdeal.τ Cert.NormQkvRefIdeal.sig) → Buf (Elt Ideal) ℓ) (g' : Dev Cert.NormQkvRefIdeal.nD → PrngReg), Pre_NormQkvIdeal m →
    (∀ c : Dev Cert.NormQkvIdeal.nD,
      m' ((c.tc : Thread Cert.NormQkvRefIdeal.nD Cert.NormQkvRefIdeal.τ).loc Cert.NormQkvRefIdeal.main_arg0) = m ((c.tc : Thread Cert.NormQkvIdeal.nD Cert.NormQkvIdeal.τ).loc Cert.NormQkvIdeal.main_arg0)
      ∧ m' ((c.tc : Thread Cert.NormQkvRefIdeal.nD Cert.NormQkvRefIdeal.τ).loc Cert.NormQkvRefIdeal.main_arg1) = m ((c.tc : Thread Cert.NormQkvIdeal.nD Cert.NormQkvIdeal.τ).loc Cert.NormQkvIdeal.main_arg1)
      ∧ m' ((c.tc : Thread Cert.NormQkvRefIdeal.nD Cert.NormQkvRefIdeal.τ).loc Cert.NormQkvRefIdeal.main_arg2) = m ((c.tc : Thread Cert.NormQkvIdeal.nD Cert.NormQkvIdeal.τ).loc Cert.NormQkvIdeal.main_arg2)
      ∧ m' ((c.tc : Thread Cert.NormQkvRefIdeal.nD Cert.NormQkvRefIdeal.τ).loc Cert.NormQkvRefIdeal.main_arg3) = m ((c.tc : Thread Cert.NormQkvIdeal.nD Cert.NormQkvIdeal.τ).loc Cert.NormQkvIdeal.main_arg3)) →
    ∃ (v0 : (c : Dev Cert.NormQkvIdeal.nD) → Buf (Elt Ideal) ((c.tc : Thread Cert.NormQkvIdeal.nD Cert.NormQkvIdeal.τ).loc Cert.NormQkvIdeal.main_v0_0)) (v1 : (c : Dev Cert.NormQkvIdeal.nD) → Buf (Elt Ideal) ((c.tc : Thread Cert.NormQkvIdeal.nD Cert.NormQkvIdeal.τ).loc Cert.NormQkvIdeal.main_v0_1)) (v2 : (c : Dev Cert.NormQkvIdeal.nD) → Buf (Elt Ideal) ((c.tc : Thread Cert.NormQkvIdeal.nD Cert.NormQkvIdeal.τ).loc Cert.NormQkvIdeal.main_v0_2)) (v3 : (c : Dev Cert.NormQkvIdeal.nD) → Buf (Elt Ideal) ((c.tc : Thread Cert.NormQkvIdeal.nD Cert.NormQkvIdeal.τ).loc Cert.NormQkvIdeal.main_v0_3)) (v4 : (c : Dev Cert.NormQkvIdeal.nD) → Buf (Elt Ideal) ((c.tc : Thread Cert.NormQkvIdeal.nD Cert.NormQkvIdeal.τ).loc Cert.NormQkvIdeal.main_v0_4)),
      θ_run (Cert.NormQkvIdeal.defs (F := Ideal)) (onTc (τ := Cert.NormQkvIdeal.τ) (Cert.NormQkvIdeal.main (F := Ideal))) ⟨m, fun _ => 0, g⟩ (fun r => ∀ c : Dev Cert.NormQkvIdeal.nD,
          r.2.mem ((c.tc : Thread Cert.NormQkvIdeal.nD Cert.NormQkvIdeal.τ).loc Cert.NormQkvIdeal.main_v0_0) = v0 c
          ∧ r.2.mem ((c.tc : Thread Cert.NormQkvIdeal.nD Cert.NormQkvIdeal.τ).loc Cert.NormQkvIdeal.main_v0_1) = v1 c
          ∧ r.2.mem ((c.tc : Thread Cert.NormQkvIdeal.nD Cert.NormQkvIdeal.τ).loc Cert.NormQkvIdeal.main_v0_2) = v2 c
          ∧ r.2.mem ((c.tc : Thread Cert.NormQkvIdeal.nD Cert.NormQkvIdeal.τ).loc Cert.NormQkvIdeal.main_v0_3) = v3 c
          ∧ r.2.mem ((c.tc : Thread Cert.NormQkvIdeal.nD Cert.NormQkvIdeal.τ).loc Cert.NormQkvIdeal.main_v0_4) = v4 c
          ∧ r.2.mem ((c.tc : Thread Cert.NormQkvIdeal.nD Cert.NormQkvIdeal.τ).loc Cert.NormQkvIdeal.main_arg0) = m ((c.tc : Thread Cert.NormQkvIdeal.nD Cert.NormQkvIdeal.τ).loc Cert.NormQkvIdeal.main_arg0)
          ∧ r.2.mem ((c.tc : Thread Cert.NormQkvIdeal.nD Cert.NormQkvIdeal.τ).loc Cert.NormQkvIdeal.main_arg1) = m ((c.tc : Thread Cert.NormQkvIdeal.nD Cert.NormQkvIdeal.τ).loc Cert.NormQkvIdeal.main_arg1)
          ∧ r.2.mem ((c.tc : Thread Cert.NormQkvIdeal.nD Cert.NormQkvIdeal.τ).loc Cert.NormQkvIdeal.main_arg2) = m ((c.tc : Thread Cert.NormQkvIdeal.nD Cert.NormQkvIdeal.τ).loc Cert.NormQkvIdeal.main_arg2)
          ∧ r.2.mem ((c.tc : Thread Cert.NormQkvIdeal.nD Cert.NormQkvIdeal.τ).loc Cert.NormQkvIdeal.main_arg3) = m ((c.tc : Thread Cert.NormQkvIdeal.nD Cert.NormQkvIdeal.τ).loc Cert.NormQkvIdeal.main_arg3))
      ∧ θ_run (Cert.NormQkvRefIdeal.defs (F := Ideal)) (onTc (τ := Cert.NormQkvRefIdeal.τ) (Cert.NormQkvRefIdeal.main (F := Ideal))) ⟨m', fun _ => 0, g'⟩ (fun r => ∀ c : Dev Cert.NormQkvRefIdeal.nD,
          r.2.mem ((c.tc : Thread Cert.NormQkvRefIdeal.nD Cert.NormQkvRefIdeal.τ).loc Cert.NormQkvRefIdeal.main_v0_0) = v0 c
          ∧ r.2.mem ((c.tc : Thread Cert.NormQkvRefIdeal.nD Cert.NormQkvRefIdeal.τ).loc Cert.NormQkvRefIdeal.main_v0_1) = v1 c
          ∧ r.2.mem ((c.tc : Thread Cert.NormQkvRefIdeal.nD Cert.NormQkvRefIdeal.τ).loc Cert.NormQkvRefIdeal.main_v0_2) = v2 c
          ∧ r.2.mem ((c.tc : Thread Cert.NormQkvRefIdeal.nD Cert.NormQkvRefIdeal.τ).loc Cert.NormQkvRefIdeal.main_v0_3) = v3 c
          ∧ r.2.mem ((c.tc : Thread Cert.NormQkvRefIdeal.nD Cert.NormQkvRefIdeal.τ).loc Cert.NormQkvRefIdeal.main_v0_4) = v4 c
          ∧ r.2.mem ((c.tc : Thread Cert.NormQkvRefIdeal.nD Cert.NormQkvRefIdeal.τ).loc Cert.NormQkvRefIdeal.main_arg0) = m' ((c.tc : Thread Cert.NormQkvRefIdeal.nD Cert.NormQkvRefIdeal.τ).loc Cert.NormQkvRefIdeal.main_arg0)
          ∧ r.2.mem ((c.tc : Thread Cert.NormQkvRefIdeal.nD Cert.NormQkvRefIdeal.τ).loc Cert.NormQkvRefIdeal.main_arg1) = m' ((c.tc : Thread Cert.NormQkvRefIdeal.nD Cert.NormQkvRefIdeal.τ).loc Cert.NormQkvRefIdeal.main_arg1)
          ∧ r.2.mem ((c.tc : Thread Cert.NormQkvRefIdeal.nD Cert.NormQkvRefIdeal.τ).loc Cert.NormQkvRefIdeal.main_arg2) = m' ((c.tc : Thread Cert.NormQkvRefIdeal.nD Cert.NormQkvRefIdeal.τ).loc Cert.NormQkvRefIdeal.main_arg2)
          ∧ r.2.mem ((c.tc : Thread Cert.NormQkvRefIdeal.nD Cert.NormQkvRefIdeal.τ).loc Cert.NormQkvRefIdeal.main_arg3) = m' ((c.tc : Thread Cert.NormQkvRefIdeal.nD Cert.NormQkvRefIdeal.τ).loc Cert.NormQkvRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def preserves_DownRef_DownRefIdeal : Prop :=
  IdealRules.named_const.Statement Cert.DownRefIdeal.κ "log2" .f32 0x3F317218#32 ((Real.log 2 : ℝ) : EReal)

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_v0_2) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hNormQkv : Cert.NormQkv.Facts) (hNormQkvIdeal : Cert.NormQkvIdeal.Facts) (hNormQkvRefIdeal : Cert.NormQkvRefIdeal.Facts) (hNormQkvRef : Cert.NormQkvRef.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hDownRef : Cert.DownRef.Facts),
    quiescent_NormQkv (hNormQkv := hNormQkv)
    ∧ quiescent_NormQkvIdeal (hNormQkvIdeal := hNormQkvIdeal)
    ∧ quiescent_NormQkvRefIdeal (hNormQkvRefIdeal := hNormQkvRefIdeal)
    ∧ quiescent_NormQkvRef (hNormQkvRef := hNormQkvRef)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_DownRef (hDownRef := hDownRef)
    ∧ preserves_NormQkv_NormQkvIdeal
    ∧ preserves_NormQkvRef_NormQkvRefIdeal
    ∧ algebraic_NormQkvIdeal_NormQkvRefIdeal (hNormQkvIdeal := hNormQkvIdeal) (hNormQkvRefIdeal := hNormQkvRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ preserves_DownRef_DownRefIdeal
    ∧ algebraic_DownIdeal_DownRefIdeal (hDownIdeal := hDownIdeal) (hDownRefIdeal := hDownRefIdeal)
-- ==== NormQkv.lean ====
abbrev S4096x3584 : Shape := ⟨2, ![4096, 3584]⟩
abbrev S1x3584 : Shape := ⟨2, ![1, 3584]⟩
abbrev S3584x21248 : Shape := ⟨2, ![3584, 21248]⟩
abbrev S1x21248 : Shape := ⟨2, ![1, 21248]⟩
abbrev S4096x1792 : Shape := ⟨2, ![4096, 1792]⟩
abbrev S4096x256 : Shape := ⟨2, ![4096, 256]⟩
abbrev S4096x1 : Shape := ⟨2, ![4096, 1]⟩
abbrev S512x3584 : Shape := ⟨2, ![512, 3584]⟩
abbrev S3584x2304 : Shape := ⟨2, ![3584, 2304]⟩
abbrev S1x2304 : Shape := ⟨2, ![1, 2304]⟩
abbrev S512x1792 : Shape := ⟨2, ![512, 1792]⟩
abbrev S512x256 : Shape := ⟨2, ![512, 256]⟩
abbrev S512x1 : Shape := ⟨2, ![512, 1]⟩
abbrev S512 : Shape := ⟨1, ![512]⟩
abbrev S512x2304 : Shape := ⟨2, ![512, 2304]⟩

abbrev nBuf : Space → Nat
  | .hbm => 9
  | .vmem => 15
  | .smem => 0
  | _ => 0

abbrev bufTy : (tb : Table) → Fin (tcTables nBuf tb) → BufTy
  | .hbm, ⟨0, _⟩ => ⟨S4096x3584, .bf16⟩
  | .hbm, ⟨1, _⟩ => ⟨S1x3584, .bf16⟩
  | .hbm, ⟨2, _⟩ => ⟨S3584x21248, .fp8e4m3⟩
  | .hbm, ⟨3, _⟩ => ⟨S1x21248, .f32⟩
  | .hbm, ⟨4, _⟩ => ⟨S4096x1792, .bf16⟩
  | .hbm, ⟨5, _⟩ => ⟨S4096x256, .bf16⟩
  | .hbm, ⟨6, _⟩ => ⟨S4096x256, .bf16⟩
  | .hbm, ⟨7, _⟩ => ⟨S4096x3584, .fp8e4m3⟩
  | .hbm, ⟨8, _⟩ => ⟨S4096x1, .f32⟩
  | .local _ .vmem, ⟨0, _⟩ => ⟨S512x3584, .bf16⟩
  | .local _ .vmem, ⟨1, _⟩ => ⟨S512x3584, .bf16⟩
  | .local _ .vmem, ⟨2, _⟩ => ⟨S1x3584, .bf16⟩
  | .local _ .vmem, ⟨3, _⟩ => ⟨S3584x2304, .fp8e4m3⟩
  | .local _ .vmem, ⟨4, _⟩ => ⟨S1x2304, .f32⟩
  | .local _ .vmem, ⟨5, _⟩ => ⟨S512x1792, .bf16⟩
  | .local _ .vmem, ⟨6, _⟩ => ⟨S512x1792, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x3584, .fp8e4m3⟩
  | .local _ .vmem, ⟨12, _⟩ => ⟨S512x3584, .fp8e4m3⟩
  | .local _ .vmem, ⟨13, _⟩ => ⟨S512x1, .f32⟩
  | .local _ .vmem, ⟨14, _⟩ => ⟨S512x1, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormQkvIdeal.lean ====
variable {F : FTy → Type} [FloatOps F] [Named F]
def κ : String → Option EReal := fun
  | "inv_d" => some ((1 / 3584 : ℝ) : EReal)
  | _ => none
-- ==== NormQkvRefIdeal.lean ====
variable {F : FTy → Type} [FloatOps F] [Named F]
def κ : String → Option EReal := fun
  | "log2" => some ((Real.log 2 : ℝ) : EReal)
  | _ => none
-- ==== NormQkvRef.lean ====
abbrev S4096x3584 : Shape := ⟨2, ![4096, 3584]⟩
abbrev S1x3584 : Shape := ⟨2, ![1, 3584]⟩
abbrev S3584x21248 : Shape := ⟨2, ![3584, 21248]⟩
abbrev S1x21248 : Shape := ⟨2, ![1, 21248]⟩
abbrev S4096x1792 : Shape := ⟨2, ![4096, 1792]⟩
abbrev S4096x256 : Shape := ⟨2, ![4096, 256]⟩
abbrev S4096x1 : Shape := ⟨2, ![4096, 1]⟩
abbrev S4096 : Shape := ⟨1, ![4096]⟩
abbrev S3584x2304 : Shape := ⟨2, ![3584, 2304]⟩
abbrev S4096x2304 : Shape := ⟨2, ![4096, 2304]⟩
abbrev S1x2304 : Shape := ⟨2, ![1, 2304]⟩

abbrev nBuf : Space → Nat
  | .hbm => 9
  | .vmem => 9
  | .smem => 0
  | _ => 0

abbrev bufTy : (tb : Table) → Fin (tcTables nBuf tb) → BufTy
  | .hbm, ⟨0, _⟩ => ⟨S4096x3584, .bf16⟩
  | .hbm, ⟨1, _⟩ => ⟨S1x3584, .bf16⟩
  | .hbm, ⟨2, _⟩ => ⟨S3584x21248, .fp8e4m3⟩
  | .hbm, ⟨3, _⟩ => ⟨S1x21248, .f32⟩
  | .hbm, ⟨4, _⟩ => ⟨S4096x1792, .bf16⟩
  | .hbm, ⟨5, _⟩ => ⟨S4096x256, .bf16⟩
  | .hbm, ⟨6, _⟩ => ⟨S4096x256, .bf16⟩
  | .hbm, ⟨7, _⟩ => ⟨S4096x3584, .fp8e4m3⟩
  | .hbm, ⟨8, _⟩ => ⟨S4096x1, .f32⟩
  | .local _ .vmem, ⟨0, _⟩ => ⟨S4096x3584, .bf16⟩
  | .local _ .vmem, ⟨1, _⟩ => ⟨S1x3584, .bf16⟩
  | .local _ .vmem, ⟨2, _⟩ => ⟨S3584x21248, .fp8e4m3⟩
  | .local _ .vmem, ⟨3, _⟩ => ⟨S1x21248, .f32⟩
  | .local _ .vmem, ⟨4, _⟩ => ⟨S4096x1792, .bf16⟩
  | .local _ .vmem, ⟨5, _⟩ => ⟨S4096x256, .bf16⟩
  | .local _ .vmem, ⟨6, _⟩ => ⟨S4096x256, .bf16⟩
  | .local _ .vmem, ⟨7, _⟩ => ⟨S4096x3584, .fp8e4m3⟩
  | .local _ .vmem, ⟨8, _⟩ => ⟨S4096x1, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x21248 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21248 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== GateUp.lean ====
abbrev S4096x3584 : Shape := ⟨2, ![4096, 3584]⟩
abbrev S4096x1 : Shape := ⟨2, ![4096, 1]⟩
abbrev S3584x21248 : Shape := ⟨2, ![3584, 21248]⟩
abbrev S1x21248 : Shape := ⟨2, ![1, 21248]⟩
abbrev S4096x9472 : Shape := ⟨2, ![4096, 9472]⟩
abbrev S4096x128 : Shape := ⟨2, ![4096, 128]⟩
abbrev S3584x256 : Shape := ⟨2, ![3584, 256]⟩
abbrev S1x256 : Shape := ⟨2, ![1, 256]⟩
abbrev S4096x256 : Shape := ⟨2, ![4096, 256]⟩
abbrev S3584x512 : Shape := ⟨2, ![3584, 512]⟩
abbrev S32x128 : Shape := ⟨2, ![32, 128]⟩
abbrev S32x128x1 : Shape := ⟨3, ![32, 128, 1]⟩
abbrev S1x128 : Shape := ⟨2, ![1, 128]⟩
abbrev S8x128 : Shape := ⟨2, ![8, 128]⟩
abbrev S8x128x1 : Shape := ⟨3, ![8, 128, 1]⟩
abbrev S512x3584 : Shape := ⟨2, ![512, 3584]⟩
abbrev S512x512 : Shape := ⟨2, ![512, 512]⟩
abbrev S512x1 : Shape := ⟨2, ![512, 1]⟩
abbrev S512x256 : Shape := ⟨2, ![512, 256]⟩
abbrev S512x128 : Shape := ⟨2, ![512, 128]⟩

abbrev nBuf : Space → Nat
  | .hbm => 6
  | .vmem => 14
  | .smem => 0
  | _ => 0

abbrev bufTy : (tb : Table) → Fin (tcTables nBuf tb) → BufTy
  | .hbm, ⟨0, _⟩ => ⟨S4096x3584, .fp8e4m3⟩
  | .hbm, ⟨1, _⟩ => ⟨S4096x1, .f32⟩
  | .hbm, ⟨2, _⟩ => ⟨S3584x21248, .fp8e4m3⟩
  | .hbm, ⟨3, _⟩ => ⟨S1x21248, .f32⟩
  | .hbm, ⟨4, _⟩ => ⟨S4096x9472, .bf16⟩
  | .hbm, ⟨5, _⟩ => ⟨S4096x128, .f32⟩
  | .local _ .vmem, ⟨0, _⟩ => ⟨S4096x3584, .fp8e4m3⟩
  | .local _ .vmem, ⟨1, _⟩ => ⟨S4096x1, .f32⟩
  | .local _ .vmem, ⟨2, _⟩ => ⟨S3584x256, .fp8e4m3⟩
  | .local _ .vmem, ⟨3, _⟩ => ⟨S3584x256, .fp8e4m3⟩
  | .local _ .vmem, ⟨4, _⟩ => ⟨S3584x256, .fp8e4m3⟩
  | .local _ .vmem, ⟨5, _⟩ => ⟨S3584x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S4096x256, .bf16⟩
  | .local _ .vmem, ⟨11, _⟩ => ⟨S4096x256, .bf16⟩
  | .local _ .vmem, ⟨12, _⟩ => ⟨S4096x128, .f32⟩
  | .local _ .vmem, ⟨13, _⟩ => ⟨S3584x512, .fp8e4m3⟩
  | _, _ => ⟨S4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c9_i32 : BitVec 32 := 9#32
  let v1 : BitVec 32 := Scalar.addi c9_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c9_i32 : BitVec 32 := 9#32
  let v1 : BitVec 32 := Scalar.addi c9_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c9_i32 : BitVec 32 := 9#32
  let v1 : BitVec 32 := Scalar.addi c9_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c9_i32 : BitVec 32 := 9#32
  let v1 : BitVec 32 := Scalar.addi c9_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateUpRefIdeal.lean ====
abbrev S4096x3584 : Shape := ⟨2, ![4096, 3584]⟩
abbrev S4096x1 : Shape := ⟨2, ![4096, 1]⟩
abbrev S3584x21248 : Shape := ⟨2, ![3584, 21248]⟩
abbrev S1x21248 : Shape := ⟨2, ![1, 21248]⟩
abbrev S4096x9472 : Shape := ⟨2, ![4096, 9472]⟩
abbrev S4096x128 : Shape := ⟨2, ![4096, 128]⟩
abbrev S3584x18944 : Shape := ⟨2, ![3584, 18944]⟩
abbrev S4096x18944 : Shape := ⟨2, ![4096, 18944]⟩
abbrev S1x18944 : Shape := ⟨2, ![1, 18944]⟩
abbrev S4096x9472x2 : Shape := ⟨3, ![4096, 9472, 2]⟩
abbrev S4096x9472x1 : Shape := ⟨3, ![4096, 9472, 1]⟩
abbrev S4096x74x128 : Shape := ⟨3, ![4096, 74, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x3584, .fp8e4m3⟩
  | .hbm, ⟨1, _⟩ => ⟨S4096x1, .f32⟩
  | .hbm, ⟨2, _⟩ => ⟨S3584x21248, .fp8e4m3⟩
  | .hbm, ⟨3, _⟩ => ⟨S1x21248, .f32⟩
  | .hbm, ⟨4, _⟩ => ⟨S4096x9472, .bf16⟩
  | .hbm, ⟨5, _⟩ => ⟨S4096x128, .f32⟩
  | .local _ .vmem, ⟨0, _⟩ => ⟨S4096x3584, .fp8e4m3⟩
  | .local _ .vmem, ⟨1, _⟩ => ⟨S4096x1, .f32⟩
  | .local _ .vmem, ⟨2, _⟩ => ⟨S3584x21248, .fp8e4m3⟩
  | .local _ .vmem, ⟨3, _⟩ => ⟨S1x21248, .f32⟩
  | .local _ .vmem, ⟨4, _⟩ => ⟨S4096x9472, .bf16⟩
  | .local _ .vmem, ⟨5, _⟩ => ⟨S4096x128, .f32⟩
  | _, _ => ⟨S4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x21248 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21248 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x9472 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S4096x9472 : Shape := ⟨2, ![4096, 9472]⟩
abbrev S4096x128 : Shape := ⟨2, ![4096, 128]⟩
abbrev S9472x3584 : Shape := ⟨2, ![9472, 3584]⟩
abbrev S1x3584 : Shape := ⟨2, ![1, 3584]⟩
abbrev S4096x3584 : Shape := ⟨2, ![4096, 3584]⟩
abbrev S4096x1 : Shape := ⟨2, ![4096, 1]⟩
abbrev S256x9472 : Shape := ⟨2, ![256, 9472]⟩
abbrev S256x128 : Shape := ⟨2, ![256, 128]⟩
abbrev S256x3584 : Shape := ⟨2, ![256, 3584]⟩
abbrev S256x1 : Shape := ⟨2, ![256, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S4096x9472, .bf16⟩
  | .hbm, ⟨1, _⟩ => ⟨S4096x128, .f32⟩
  | .hbm, ⟨2, _⟩ => ⟨S9472x3584, .fp8e4m3⟩
  | .hbm, ⟨3, _⟩ => ⟨S1x3584, .f32⟩
  | .hbm, ⟨4, _⟩ => ⟨S4096x3584, .bf16⟩
  | .hbm, ⟨5, _⟩ => ⟨S4096x3584, .bf16⟩
  | .hbm, ⟨6, _⟩ => ⟨S4096x9472, .fp8e4m3⟩
  | .hbm, ⟨7, _⟩ => ⟨S4096x1, .f32⟩
  | .local _ .vmem, ⟨0, _⟩ => ⟨S256x9472, .bf16⟩
  | .local _ .vmem, ⟨1, _⟩ => ⟨S256x9472, .bf16⟩
  | .local _ .vmem, ⟨2, _⟩ => ⟨S256x128, .f32⟩
  | .local _ .vmem, ⟨3, _⟩ => ⟨S256x128, .f32⟩
  | .local _ .vmem, ⟨4, _⟩ => ⟨S9472x3584, .fp8e4m3⟩
  | .local _ .vmem, ⟨5, _⟩ => ⟨S1x3584, .f32⟩
  | .local _ .vmem, ⟨6, _⟩ => ⟨S256x3584, .bf16⟩
  | .local _ .vmem, ⟨7, _⟩ => ⟨S256x3584, .bf16⟩
  | .local _ .vmem, ⟨8, _⟩ => ⟨S256x3584, .bf16⟩
  | .local _ .vmem, ⟨9, _⟩ => ⟨S256x3584, .bf16⟩
  | .local _ .vmem, ⟨10, _⟩ => ⟨S256x9472, .fp8e4m3⟩
  | .local _ .vmem, ⟨11, _⟩ => ⟨S256x9472, .fp8e4m3⟩
  | .local _ .vmem, ⟨12, _⟩ => ⟨S256x1, .f32⟩
  | .local _ .vmem, ⟨13, _⟩ => ⟨S256x1, .f32⟩
  | _, _ => ⟨S4096x9472, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9472 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9472x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x9472 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownRefIdeal.lean ====
variable {F : FTy → Type} [FloatOps F] [Named F]
def κ : String → Option EReal := fun
  | "log2" => some ((Real.log 2 : ℝ) : EReal)
  | _ => none
-- ==== DownRef.lean ====
abbrev S4096x9472 : Shape := ⟨2, ![4096, 9472]⟩
abbrev S4096x128 : Shape := ⟨2, ![4096, 128]⟩
abbrev S9472x3584 : Shape := ⟨2, ![9472, 3584]⟩
abbrev S1x3584 : Shape := ⟨2, ![1, 3584]⟩
abbrev S4096x3584 : Shape := ⟨2, ![4096, 3584]⟩
abbrev S4096x1 : Shape := ⟨2, ![4096, 1]⟩
abbrev S4096 : Shape := ⟨1, ![4096]⟩

abbrev nBuf : Space → Nat
  | .hbm => 8
  | .vmem => 8
  | .smem => 0
  | _ => 0

abbrev bufTy : (tb : Table) → Fin (tcTables nBuf tb) → BufTy
  | .hbm, ⟨0, _⟩ => ⟨S4096x9472, .bf16⟩
  | .hbm, ⟨1, _⟩ => ⟨S4096x128, .f32⟩
  | .hbm, ⟨2, _⟩ => ⟨S9472x3584, .fp8e4m3⟩
  | .hbm, ⟨3, _⟩ => ⟨S1x3584, .f32⟩
  | .hbm, ⟨4, _⟩ => ⟨S4096x3584, .bf16⟩
  | .hbm, ⟨5, _⟩ => ⟨S4096x3584, .bf16⟩
  | .hbm, ⟨6, _⟩ => ⟨S4096x9472, .fp8e4m3⟩
  | .hbm, ⟨7, _⟩ => ⟨S4096x1, .f32⟩
  | .local _ .vmem, ⟨0, _⟩ => ⟨S4096x9472, .bf16⟩
  | .local _ .vmem, ⟨1, _⟩ => ⟨S4096x128, .f32⟩
  | .local _ .vmem, ⟨2, _⟩ => ⟨S9472x3584, .fp8e4m3⟩
  | .local _ .vmem, ⟨3, _⟩ => ⟨S1x3584, .f32⟩
  | .local _ .vmem, ⟨4, _⟩ => ⟨S4096x3584, .bf16⟩
  | .local _ .vmem, ⟨5, _⟩ => ⟨S4096x3584, .bf16⟩
  | .local _ .vmem, ⟨6, _⟩ => ⟨S4096x9472, .fp8e4m3⟩
  | .local _ .vmem, ⟨7, _⟩ => ⟨S4096x1, .f32⟩
  | _, _ => ⟨S4096x9472, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4096x9472 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9472x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x9472 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Quant.lean ====
/- The power-of-two scale of the quantiser, on one extended real. The kernel finds the exponent field of a number by
   comparing it with eight powers of two, one bit of the field after the other; the reference takes the floor of the
   base-2 logarithm. The scale and the reciprocal scale that come out are the same numbers. -/
module

public import Idealize.ShloMosaic.PureOps.Ideal
public import Idealize.ShloMosaic.PureOps.Ideal.Laws

@[expose] public section

set_option maxRecDepth 16384

noncomputable section

namespace Cert.Quant

open Idealize.ShloMosaic

/-! ## The kernel's form -/

/-- The float whose exponent field is `n` and whose other bits are zero. -/
def word (n : BitVec 32) : EReal := Ideal.ofBits .f32 (IntOp.shli .vector n 23#32)

/-- One step of the search: keep the bit `b` if the power of two it names is not above `t`. -/
def step (t : EReal) (b f : BitVec 32) : BitVec 32 :=
  Scalar.select (Ideal.cmp .oge t (word (IntOp.addi f b))) (IntOp.addi f b) f

/-- The exponent field of `t`, found bit by bit. -/
def field (t : EReal) : BitVec 32 :=
  step t 1#32 (step t 2#32 (step t 4#32 (step t 8#32 (step t 16#32 (step t 32#32 (step t 64#32 (step t 128#32 0#32)))))))

/-- The exponent of the scale from the field `f`: zero at the two irregular fields. -/
def expoOf (f : BitVec 32) : BitVec 32 :=
  Scalar.select (IntOp.andi (IntOp.cmpi .sgt f 0#32) (IntOp.cmpi .slt f 255#32)) (IntOp.subi f 126#32) 0#32

/-- A field clamped to eight bits. -/
def clampField (e : BitVec 32) : BitVec 32 := IntOp.minsi 255#32 (IntOp.maxsi 0#32 e)

/-- The kernel's scale. -/
def kscale (t : EReal) : EReal := word (clampField (IntOp.addi (expoOf (field t)) 127#32))

/-- The kernel's reciprocal scale. -/
def kinv (t : EReal) : EReal := word (clampField (IntOp.subi 127#32 (expoOf (field t))))

/-! ## The reference's form (`l` is the natural logarithm of two) -/

/-- The reference's exponent. -/
def rexpo (l t : EReal) : EReal :=
  Scalar.select (IntOp.ori (Ideal.cmp .olt t (Ideal.ofBits .f32 0x00800000#32)) (Ideal.cmp .oeq t (Ideal.ofBits .f32 0x7F800000#32)))
    (Ideal.ofBits .f32 0x00000000#32)
    (Ideal.liftRound Int.floor (Ideal.div (Ideal.log t) l) + Ideal.ofBits .f32 0x3F800000#32)

/-- The reference's scale. -/
def rscale (l t : EReal) : EReal :=
  Scalar.select (Ideal.cmp .ogt (rexpo l t) (Ideal.ofBits .f32 0x42FE0000#32)) (Ideal.ofBits .f32 0x7F800000#32) (Ideal.exp2 (rexpo l t))

/-- The reference's reciprocal scale. -/
def rinv (l t : EReal) : EReal :=
  Scalar.select (Ideal.cmp .ogt (rexpo l t) (Ideal.ofBits .f32 0x42FC0000#32)) (Ideal.ofBits .f32 0x00000000#32)
    (Ideal.exp2 (Ideal.ofBits .f32 0x00000000#32 - rexpo l t))

/-! ## What the words are -/

/-- The fields of a shifted exponent word. -/
theorem word_bits : ∀ n : Fin 256, (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- A word whose sign and fraction are zero, read as a float. -/
theorem ieee_pow (b : BitVec 32) (n : Nat) (g1 : b.extractLsb' 31 1 = 0#1) (g2 : (b.extractLsb' 23 8).toNat = n)
    (g3 : (b.extractLsb' 0 23).toNat = 0) :
    Ideal.ieee 8 23 b = if n = 255 then ⊤ else if n = 0 then 0 else (((2 : ℝ) ^ ((n : ℤ) - 127) : ℝ) : EReal) := by
  have e : ((n : ℤ) - 127) = 23 + ((n : ℤ) - (2 ^ (8 - 1) - 1) - (23 : ℕ)) := by push_cast; ring
  rw [e, zpow_add₀ (by norm_num)]
  simp only [Ideal.ieee, g1, g2, g3]
  norm_num

/-- The word of a field below 256. -/
theorem word_eq (n : Nat) (h : n < 256) :
    word (BitVec.ofNat 32 n) = if n = 255 then ⊤ else if n = 0 then 0 else (((2 : ℝ) ^ ((n : ℤ) - 127) : ℝ) : EReal) := by
  obtain ⟨g1, g2, g3⟩ := word_bits ⟨n, h⟩
  exact ieee_pow _ n g1 g2 g3

/-- The word of field zero is zero. -/
theorem word_zero : word (BitVec.ofNat 32 0) = 0 := by rw [word_eq 0 (by omega)]; simp

/-- The word of field 255 is infinity. -/
theorem word_top : word (BitVec.ofNat 32 255) = ⊤ := by rw [word_eq 255 (by omega), if_pos rfl]

/-- The word of a regular field `n` is `2 ^ (n - 127)`. -/
theorem word_mid (n : Nat) (h0 : 0 < n) (h1 : n < 255) :
    word (BitVec.ofNat 32 n) = (((2 : ℝ) ^ ((n : ℤ) - 127) : ℝ) : EReal) := by
  rw [word_eq n (by omega), if_neg (by omega), if_neg (by omega)]

theorem c_min : Ideal.ofBits .f32 0x00800000#32 = word (BitVec.ofNat 32 1) := rfl

attribute [irreducible] word

/-! ## The search -/

/-- One step of the search halves the interval of fields. -/
theorem step_inv (t : EReal) (n w : Nat) (hw : 0 < w) (hn : n + 2 * w ≤ 256)
    (lo : n = 0 ∨ word (BitVec.ofNat 32 n) ≤ t) (hi : n + 2 * w = 256 ∨ t < word (BitVec.ofNat 32 (n + 2 * w))) :
    ∃ n', step t (BitVec.ofNat 32 w) (BitVec.ofNat 32 n) = BitVec.ofNat 32 n' ∧ n' + w ≤ 256
      ∧ (n' = 0 ∨ word (BitVec.ofNat 32 n') ≤ t) ∧ (n' + w = 256 ∨ t < word (BitVec.ofNat 32 (n' + w))) := by
  have ha : IntOp.addi (BitVec.ofNat 32 n) (BitVec.ofNat 32 w) = BitVec.ofNat 32 (n + w) := by
    simp only [IntOp.addi]; rw [BitVec.ofNat_add]
  by_cases h : word (BitVec.ofNat 32 (n + w)) ≤ t
  · refine ⟨n + w, ?_, by omega, Or.inr h, ?_⟩
    · simp [step, ha, Ideal.cmp, Scalar.select, h]
    · rw [show n + w + w = n + 2 * w by omega]; exact hi
  · refine ⟨n, ?_, by omega, lo, Or.inr (lt_of_not_ge h)⟩
    simp [step, ha, Ideal.cmp, Scalar.select, h]

/-- The field found: the powers of two on its two sides hold `t` between them. -/
theorem field_spec (t : EReal) : ∃ n, n ≤ 255 ∧ field t = BitVec.ofNat 32 n
    ∧ (n = 0 ∨ word (BitVec.ofNat 32 n) ≤ t) ∧ (n = 255 ∨ t < word (BitVec.ofNat 32 (n + 1))) := by
  obtain ⟨n7, e7, b7, l7, u7⟩ := step_inv t 0 128 (by omega) (by omega) (.inl rfl) (.inl rfl)
  obtain ⟨n6, e6, b6, l6, u6⟩ := step_inv t n7 64 (by omega) (by omega) l7 u7
  obtain ⟨n5, e5, b5, l5, u5⟩ := step_inv t n6 32 (by omega) (by omega) l6 u6
  obtain ⟨n4, e4, b4, l4, u4⟩ := step_inv t n5 16 (by omega) (by omega) l5 u5
  obtain ⟨n3, e3, b3, l3, u3⟩ := step_inv t n4 8 (by omega) (by omega) l4 u4
  obtain ⟨n2, e2, b2, l2, u2⟩ := step_inv t n3 4 (by omega) (by omega) l3 u3
  obtain ⟨n1, e1, b1, l1, u1⟩ := step_inv t n2 2 (by omega) (by omega) l2 u2
  obtain ⟨n0, e0, b0, l0, u0⟩ := step_inv t n1 1 (by omega) (by omega) l1 u1
  refine ⟨n0, by omega, ?_, l0, ?_⟩
  · rw [field, e7, e6, e5, e4, e3, e2, e1, e0]
  · rcases u0 with u | u
    · left; omega
    · right; exact u

/-- The field of the kernel's scale and of its reciprocal, for each of the 256 fields. -/
theorem clamp_spec : ∀ n : Fin 256,
    clampField (IntOp.addi (expoOf (BitVec.ofNat 32 n.val)) 127#32) = BitVec.ofNat 32 (if 0 < n.val ∧ n.val < 255 then n.val + 1 else 127)
    ∧ clampField (IntOp.subi 127#32 (expoOf (BitVec.ofNat 32 n.val))) = BitVec.ofNat 32 (if 0 < n.val ∧ n.val < 255 then 253 - n.val else 127) := by
  decide +kernel

/-! ## The constants of the reference -/

theorem c_zero : Ideal.ofBits .f32 0x00000000#32 = 0 := by simp [Ideal.ofBits, Ideal.ieee]
theorem c_one : Ideal.ofBits .f32 0x3F800000#32 = ((1 : ℝ) : EReal) := by
  simp [Ideal.ofBits, Ideal.ieee, -EReal.coe_mul]; norm_num
theorem c_top : Ideal.ofBits .f32 0x7F800000#32 = ⊤ := by simp [Ideal.ofBits, Ideal.ieee]
theorem c_127 : Ideal.ofBits .f32 0x42FE0000#32 = ((127 : ℝ) : EReal) := by
  simp [Ideal.ofBits, Ideal.ieee, -EReal.coe_mul]; norm_num
theorem c_126 : Ideal.ofBits .f32 0x42FC0000#32 = ((126 : ℝ) : EReal) := by
  simp [Ideal.ofBits, Ideal.ieee, -EReal.coe_mul]; norm_num
/-! ## The reference's exponent -/

/-- The reference's exponent where it is regular: the floor of the base-2 logarithm, plus one. -/
theorem rexpo_mid (r : ℝ) (h : (((2 : ℝ) ^ (-126 : ℤ) : ℝ) : EReal) ≤ r) :
    rexpo ((Real.log 2 : ℝ) : EReal) r = (((⌊Real.log r / Real.log 2⌋ + 1 : ℤ) : ℝ) : EReal) := by
  have hr : (2 : ℝ) ^ (-126 : ℤ) ≤ r := by exact_mod_cast h
  have hpos : 0 < r := lt_of_lt_of_le (by positivity) hr
  have hl : Real.log 2 ≠ 0 := (Real.log_pos (by norm_num)).ne'
  have h1 : ¬ ((r : EReal) < word (BitVec.ofNat 32 1)) := by
    rw [word_mid 1 (by omega) (by omega)]
    exact not_lt.mpr h
  have h2 : ¬ ((r : EReal) = ⊤) := EReal.coe_ne_top r
  have e : IntOp.ori (Ideal.cmp .olt (r : EReal) (Ideal.ofBits .f32 0x00800000#32)) (Ideal.cmp .oeq (r : EReal) (Ideal.ofBits .f32 0x7F800000#32)) = 0#1 := by
    rw [c_min, c_top]; simp [Ideal.cmp, IntOp.ori, h1, h2]
  rw [rexpo, e, c_zero, c_one, Ideal.log_coe, if_neg (not_le.mpr hpos), Ideal.div_coe hl, ← EReal.coe_mul,
    mul_one_div, Ideal.liftRound_coe, ← EReal.coe_add]
  simp [Scalar.select]

/-- The floor of the base-2 logarithm is at least `z` from `2 ^ z` on. -/
theorem floor_ge (r : ℝ) (z : ℤ) (h : (2 : ℝ) ^ z ≤ r) : z ≤ ⌊Real.log r / Real.log 2⌋ := by
  have hl : 0 < Real.log 2 := Real.log_pos (by norm_num)
  rw [Int.le_floor, le_div_iff₀ hl, ← Real.log_zpow]
  exact Real.log_le_log (by positivity) h

/-- … and below `z` under it. -/
theorem floor_lt (r : ℝ) (z : ℤ) (h0 : 0 < r) (h : r < (2 : ℝ) ^ z) : ⌊Real.log r / Real.log 2⌋ < z := by
  have hl : 0 < Real.log 2 := Real.log_pos (by norm_num)
  rw [Int.floor_lt, div_lt_iff₀ hl, ← Real.log_zpow]
  exact Real.log_lt_log h0 h

/-- The reference's exponent is zero under the smallest normal number and at infinity. -/
theorem rexpo_irr (t : EReal) (h : t < word (BitVec.ofNat 32 1) ∨ t = ⊤) : rexpo ((Real.log 2 : ℝ) : EReal) t = 0 := by
  have e : IntOp.ori (Ideal.cmp .olt t (Ideal.ofBits .f32 0x00800000#32)) (Ideal.cmp .oeq t (Ideal.ofBits .f32 0x7F800000#32)) = 1#1 := by
    rw [c_min, c_top]
    rcases h with h | h
    · have : ¬ t = ⊤ := ne_top_of_lt h
      simp [Ideal.cmp, IntOp.ori, h, this]
    · subst h
      simp [Ideal.cmp, IntOp.ori, word_mid]
  rw [rexpo, e, c_zero]
  simp [Scalar.select]

/-- `exp2` at an integer. -/
theorem exp2_int (z : ℤ) : Ideal.exp2 (((z : ℤ) : ℝ) : EReal) = (((2 : ℝ) ^ z : ℝ) : EReal) := by
  rw [Ideal.exp2_coe]; congr 1; exact Real.rpow_intCast 2 z

/-- The reference's scale at an integer exponent. -/
theorem rscale_int (l t : EReal) (z : ℤ) (h : rexpo l t = ((z : ℝ) : EReal)) :
    rscale l t = if 127 < z then ⊤ else (((2 : ℝ) ^ z : ℝ) : EReal) := by
  rw [rscale, h, c_127, c_top, exp2_int]
  by_cases hz : 127 < z
  · have : ((127 : ℝ) : EReal) < ((z : ℝ) : EReal) := by exact_mod_cast hz
    simp [Ideal.cmp, Scalar.select, this, hz]
  · have : ¬ ((127 : ℝ) : EReal) < ((z : ℝ) : EReal) := by exact_mod_cast hz
    simp only [Ideal.cmp, Scalar.select, this, hz]; rfl

/-- The reference's reciprocal scale at an integer exponent. -/
theorem rinv_int (l t : EReal) (z : ℤ) (h : rexpo l t = ((z : ℝ) : EReal)) :
    rinv l t = if 126 < z then 0 else (((2 : ℝ) ^ (-z) : ℝ) : EReal) := by
  have e : (0 : EReal) - ((z : ℝ) : EReal) = (((-z : ℤ) : ℝ) : EReal) := by
    rw [← EReal.coe_zero, ← EReal.coe_sub]; congr 1; push_cast; ring
  rw [rinv, h, c_126, c_zero, e, exp2_int]
  by_cases hz : 126 < z
  · have : ((126 : ℝ) : EReal) < ((z : ℝ) : EReal) := by exact_mod_cast hz
    simp [Ideal.cmp, Scalar.select, this, hz]
  · have : ¬ ((126 : ℝ) : EReal) < ((z : ℝ) : EReal) := by exact_mod_cast hz
    simp only [Ideal.cmp, Scalar.select, this, hz]; rfl

/-! ## The equation -/

/-- The kernel's scale and reciprocal scale are the reference's, at every extended real. -/
theorem both (t : EReal) : kscale t = rscale ((Real.log 2 : ℝ) : EReal) t ∧ kinv t = rinv ((Real.log 2 : ℝ) : EReal) t := by
  obtain ⟨n, hn, hf, lo, hi⟩ := field_spec t
  obtain ⟨c1, c2⟩ := clamp_spec ⟨n, by omega⟩
  rw [kscale, kinv, hf]
  dsimp only at c1 c2
  rw [c1, c2]
  by_cases hmid : 0 < n ∧ n < 255
  · rw [if_pos hmid, if_pos hmid]
    obtain ⟨h0, h1⟩ := hmid
    have lo' : (((2 : ℝ) ^ ((n : ℤ) - 127) : ℝ) : EReal) ≤ t := by
      rw [← word_mid n h0 h1]; exact lo.resolve_left (by omega)
    have hi' : t < word (BitVec.ofNat 32 (n + 1)) := hi.resolve_left (by omega)
    have hbot : t ≠ ⊥ := ne_bot_of_le_ne_bot (EReal.coe_ne_bot _) lo'
    have htop : t ≠ ⊤ := ne_top_of_lt hi'
    lift t to ℝ using ⟨htop, hbot⟩
    have lor : (2 : ℝ) ^ ((n : ℤ) - 127) ≤ t := by exact_mod_cast lo'
    have tpos : 0 < t := lt_of_lt_of_le (by positivity) lor
    have hmin : (((2 : ℝ) ^ (-126 : ℤ) : ℝ) : EReal) ≤ t := by
      have hz : (-126 : ℤ) ≤ (n : ℤ) - 127 := by omega
      exact le_trans (EReal.coe_le_coe_iff.mpr (zpow_le_zpow_right₀ (by norm_num : (1 : ℝ) ≤ 2) hz)) lo'
    have hx := rexpo_mid t hmin
    have g1 := floor_ge t _ lor
    rw [rscale_int _ _ _ hx, rinv_int _ _ _ hx]
    by_cases h254 : n = 254
    · subst h254
      rw [if_pos (by push_cast at g1; omega), if_pos (by push_cast at g1; omega)]
      exact ⟨word_top, word_zero⟩
    · have hir : t < (2 : ℝ) ^ ((n : ℤ) - 126) := by
        rw [word_mid (n + 1) (by omega) (by omega)] at hi'
        have : t < (2 : ℝ) ^ (((n + 1 : ℕ) : ℤ) - 127) := by exact_mod_cast hi'
        rwa [show ((n + 1 : ℕ) : ℤ) - 127 = (n : ℤ) - 126 by push_cast; ring] at this
      have g2 := floor_lt t _ tpos hir
      have g : ⌊Real.log t / Real.log 2⌋ + 1 = (n : ℤ) - 126 := by omega
      have e1 : (n : ℤ) - 126 = ((n + 1 : ℕ) : ℤ) - 127 := by omega
      have hz : ¬ 127 < (n : ℤ) - 126 := by omega
      rw [g, if_neg hz, word_mid (n + 1) (by omega) (by omega)]
      refine ⟨by rw [e1], ?_⟩
      by_cases h253 : n = 253
      · subst h253
        rw [if_pos (by norm_num)]; exact word_zero
      · rw [if_neg (by omega), word_mid (253 - n) (by omega) (by omega)]
        congr 2
        omega
  · rw [if_neg hmid, if_neg hmid]
    have hirr : t < word (BitVec.ofNat 32 1) ∨ t = ⊤ := by
      have : n = 0 ∨ n = 255 := by omega
      rcases this with h | h
      · subst h; left; exact hi.resolve_left (by omega)
      · subst h; right
        have := lo.resolve_left (by omega)
        rw [word_top] at this
        exact top_le_iff.mp this
    have hx : rexpo ((Real.log 2 : ℝ) : EReal) t = (((0 : ℤ) : ℝ) : EReal) := by rw [rexpo_irr t hirr]; simp
    rw [rscale_int _ _ _ hx, rinv_int _ _ _ hx, word_mid 127 (by omega) (by omega)]
    simp

theorem kscale_eq (t : EReal) : kscale t = rscale ((Real.log 2 : ℝ) : EReal) t := (both t).1
theorem kinv_eq (t : EReal) : kinv t = rinv ((Real.log 2 : ℝ) : EReal) t := (both t).2

end Cert.Quant

end
-- ==== Proof.Rows.lean ====
/- What the kernels and their references compute, one row of an array at a time, on the extended reals; and the vector
   operations the programs use, read at one index. The row functions are written once and both programs are shown to
   compute them. -/
module

public import proofs.«01_k».proof.Proof.Quant
public import Idealize.ShloMosaic.Lib.ValueIdx
public import Idealize.ShloMosaic.Lib.MatmulPlain
public import Idealize.ShloMosaic.Lib.ValueLayout
public import Idealize.ShloMosaic.Lib.Pipeline.Value

@[expose] public section

set_option maxRecDepth 16384

noncomputable section

namespace Cert.Rows

open Idealize.ShloMosaic Idealize.ShloMosaic.ValueIdx Cert.Quant
open scoped BigOperators

/-! ## The row functions -/

/-- The natural logarithm of two. -/
def ln2 : EReal := ((Real.log 2 : ℝ) : EReal)

/-- The largest entry of a row, divided by 448 (multiplied by the constant that stands for 1/448). -/
def rowT {N : Nat} (a : Fin N → EReal) : EReal :=
  Finset.univ.fold max (Ideal.ofBits .f32 0xFF800000#32) a * Ideal.ofBits .f32 0x3B124925#32

/-- The scale of a row whose largest entries are `a`. -/
def rowScale {N : Nat} (a : Fin N → EReal) : EReal := rscale ln2 (rowT a)

/-- A number clipped to the range of the eight-bit format. -/
def clip (x : EReal) : EReal := min (Ideal.ofBits .f32 0x43E00000#32) (max (Ideal.ofBits .f32 0xC3E00000#32) x)

/-- The code of the entry `h` in a row whose largest entries are `a`. -/
def rowCode {N : Nat} (a : Fin N → EReal) (h : EReal) : EReal := clip (h * rinv ln2 (rowT a))

/-- A quantised row times a column of codes, with the scale of the row and the scale of the column. -/
def rowDot {N K : Nat} (a : Fin N → EReal) (h : Fin K → EReal) (w : Fin K → EReal) (ws : EReal) : EReal :=
  ((∑ k : Fin K, rowCode a (h k) * w k) * rowScale a) * ws

/-- An entry of a normalised row: the row `x` divided by its root mean square (over 3584 entries), times the gain `g`. -/
def rowNorm {N : Nat} (x g : Fin N → EReal) (k : Fin N) : EReal :=
  (x k * Ideal.rsqrt ((∑ i : Fin N, x i * x i) * ((1 / 3584 : ℝ) : EReal) + Ideal.ofBits .f32 0x358637BD#32)) * g k

/-- The size of an entry of a normalised row. -/
def rowAbs {N : Nat} (x g : Fin N → EReal) (k : Fin N) : EReal := max (rowNorm x g k) (-(rowNorm x g k))

/-- Column `j` of the block of columns that starts at column `o`. -/
def col {n : Nat} (o N : Nat) (h : o + n ≤ N) (j : Fin n) : Fin N := ⟨o + j.val, by have := j.isLt; omega⟩

/-! ## Vector operations at an index -/

/-- A literal is the number its bits name. -/
theorem lit (b : BitVec 32) : (Scalar.ofBits (F := Ideal) .f32 b : Ideal .f32) = Ideal.ofBits .f32 b := rfl

/-- A narrowed scalar is the scalar. -/
theorem lit16 (x : Ideal .f32) (h : FTy.bf16.bits < FTy.f32.bits) : Scalar.truncf (F := Ideal) .bf16 h x = x := rfl

/-- The quotient of two columns by the constant that stands for 448. -/
theorem t_apply {s : Shape} (v : FVec Ideal s .f32) (j : s.Idx) :
    mulf (F := Ideal) v (broadcast s (Scalar.ofBits (F := Ideal) .f32 0x3B124925#32)) j = (v j : EReal) * Ideal.ofBits .f32 0x3B124925#32 := rfl

/-- The size of a number. -/
theorem abs_apply {s : Shape} (v : FVec Ideal s .f32) (j : s.Idx) : absf v j = max (v j : EReal) (-(v j : EReal)) := rfl

/-- The reciprocal root of a column of means, the mean taken as a product. -/
theorem inv_apply {s : Shape} (v : FVec Ideal s .f32) (k e : Ideal .f32) (j : s.Idx) :
    rsqrt (addf (mulf (F := Ideal) v (broadcast s k)) (broadcast s e)) j = Ideal.rsqrt ((v j : EReal) * (k : EReal) + (e : EReal)) := rfl

/-- The number of entries of a row. -/
theorem lit_3584 : Ideal.ofBits .f32 0x45600000#32 = ((3584 : ℝ) : EReal) := by
  simp [Ideal.ofBits, Ideal.ieee]
  rw [← EReal.coe_mul]
  norm_num

/-- The reciprocal root of a column of means, the mean taken as a quotient. -/
theorem inv_div_apply {s : Shape} (v : FVec Ideal s .f32) (e : Ideal .f32) (j : s.Idx) :
    rsqrt (addf (divf (F := Ideal) v (broadcast s (Ideal.ofBits .f32 0x45600000#32))) (broadcast s e)) j
      = Ideal.rsqrt ((v j : EReal) * ((1 / 3584 : ℝ) : EReal) + (e : EReal)) := by
  show Ideal.rsqrt (Ideal.div (v j) (Ideal.ofBits .f32 0x45600000#32) + (e : EReal)) = _
  rw [lit_3584, Ideal.div_coe (by norm_num)]

/-- The codes of an array, from the array of reciprocal scales. -/
theorem vcode_apply {s : Shape} (v u : FVec Ideal s .f32) (hb : FTy.fp8e4m3.bits < FTy.f32.bits) (j : s.Idx) :
    truncf (F := Ideal) .fp8e4m3 (minimumf (broadcast s (Ideal.ofBits .f32 0x43E00000#32)) (maximumf (broadcast s (Ideal.ofBits .f32 0xC3E00000#32)) (mulf v u))) hb j
      = clip ((v j : EReal) * (u j : EReal)) := rfl

/-- The maximum along the rows, kept as a column, at a row. -/
theorem rowmax_apply {M N : Nat} (v : FVec Ideal ⟨2, ![M, N]⟩ .f32) (acc : BitVec 32)
    (h : (⟨2, ![M, N]⟩ : Shape).Reduces [1] ⟨1, ![M]⟩) (hk hφ) (hc : (⟨1, ![M]⟩ : Shape).ShapeCasts ⟨2, ![M, 1]⟩) (r : Fin M) (z : Fin 1) :
    shapeCast ⟨2, ![M, 1]⟩ (multiReduction (F := Ideal) .maximumf [1] ⟨1, ![M]⟩ v acc h hk hφ) hc (ix2 r z)
      = Finset.univ.fold max (Ideal.ofBits .f32 acc) (fun k : Fin N => v (ix2 r k)) := by
  rw [shapeCast_apply _ hc (ix2 r z) (ix1 r) (by
    rw [Shape.rowMajor_val_one, Shape.rowMajor_val_two]
    show r.val = r.val * 1 + z.val
    omega)]
  rw [Ideal.multiReduction_maximumf_single]
  refine congrArg (Finset.fold max _ · Finset.univ) (funext fun k => congrArg v ?_)
  exact Shape.idx_ext₂ rfl rfl

/-- The sum along the rows, kept as a column, at a row. -/
theorem rowsum_apply {M N : Nat} (v : FVec Ideal ⟨2, ![M, N]⟩ .f32)
    (h : (⟨2, ![M, N]⟩ : Shape).Reduces [1] ⟨1, ![M]⟩) (hk hφ) (hc : (⟨1, ![M]⟩ : Shape).ShapeCasts ⟨2, ![M, 1]⟩) (r : Fin M) (z : Fin 1) :
    shapeCast ⟨2, ![M, 1]⟩ (multiReduction (F := Ideal) .add [1] ⟨1, ![M]⟩ v 0x00000000#32 h hk hφ) hc (ix2 r z)
      = ∑ k : Fin N, v (ix2 r k) := by
  rw [shapeCast_apply _ hc (ix2 r z) (ix1 r) (by
    rw [Shape.rowMajor_val_one, Shape.rowMajor_val_two]
    show r.val = r.val * 1 + z.val
    omega)]
  rw [Ideal.multiReduction_add_single]
  refine Finset.sum_congr rfl fun k _ => congrArg v ?_
  exact Shape.idx_ext₂ rfl rfl

/-- A column spread over a matrix. -/
theorem bcol_apply {M N : Nat} {α : Type} (v : (⟨2, ![M, 1]⟩ : Shape).Idx → α) (h : (⟨2, ![M, 1]⟩ : Shape).Broadcasts ⟨2, ![M, N]⟩)
    (r : Fin M) (c : Fin N) : broadcastTo ⟨2, ![M, N]⟩ v h (ix2 r c) = v (ix2 r 0) :=
  broadcastTo_apply v h (ix2 r c) (ix2 r 0) fun a => by
    match a with
    | ⟨0, _⟩ =>
      show r.val = if M = 1 then 0 else r.val
      have := r.isLt
      split <;> omega
    | ⟨1, _⟩ => rfl

/-- A row spread over a matrix. -/
theorem brow_apply {M N : Nat} {α : Type} (v : (⟨2, ![1, N]⟩ : Shape).Idx → α) (h : (⟨2, ![1, N]⟩ : Shape).Broadcasts ⟨2, ![M, N]⟩)
    (r : Fin M) (c : Fin N) : broadcastTo ⟨2, ![M, N]⟩ v h (ix2 r c) = v (ix2 0 c) :=
  broadcastTo_apply v h (ix2 r c) (ix2 0 c) fun a => by
    match a with
    | ⟨0, _⟩ => rfl
    | ⟨1, _⟩ =>
      show c.val = if N = 1 then 0 else c.val
      have := c.isLt
      split <;> omega

/-- A matrix product into a zero accumulator. -/
theorem dot_apply {M K N : Nat} {φ ψ : FTy} (prec : Option ContractPrecision) (a : FVec Ideal ⟨2, ![M, K]⟩ φ) (b : FVec Ideal ⟨2, ![K, N]⟩ ψ)
    (r : Fin M) (c : Fin N) :
    FloatOps.matmul (F := Ideal) (DotDims.plain M K N) prec a b (constant ⟨2, ![M, N]⟩ .f32 0x00000000#32) (ix2 r c)
      = ∑ k : Fin K, (a (ix2 r k) * b (ix2 k c) : EReal) := by
  rw [Ideal.matmul_plain_apply]
  rw [show (constant (F := Ideal) ⟨2, ![M, N]⟩ .f32 0x00000000#32 (ix2 r c) : EReal) = 0 from Ideal.ofBits_zero_f32, zero_add]

/-! ## The two forms of the scale, on a column of numbers -/

section Columns
variable {s : Shape}

/-- One step of the search for the exponent field. -/
def vstep (t : FVec Ideal s .f32) (b : BitVec 32) (f : IVec s 32) : IVec s 32 :=
  select (cmpf .oge t (bitcastToFloat .f32 (shli (addi f (broadcast s b)) (broadcast s 23#32)))) (addi f (broadcast s b)) f

/-- The search for the exponent field. -/
def vfield (t : FVec Ideal s .f32) : IVec s 32 :=
  vstep t 1#32 (vstep t 2#32 (vstep t 4#32 (vstep t 8#32 (vstep t 16#32 (vstep t 32#32 (vstep t 64#32 (vstep t 128#32 (broadcast s 0#32))))))))

/-- The exponent from the field. -/
def vexpo (f : IVec s 32) : IVec s 32 :=
  select (andi (cmpi .sgt f (broadcast s 0#32)) (cmpi .slt f (broadcast s 255#32))) (subi f (broadcast s 126#32)) (broadcast s 0#32)

/-- A power of two from its field, clamped to eight bits. -/
def vword (e : IVec s 32) : FVec Ideal s .f32 :=
  bitcastToFloat .f32 (shli (minsi (broadcast s 255#32) (maxsi (broadcast s 0#32) e)) (broadcast s 23#32))

/-- The kernel's scale. -/
def vkscale (t : FVec Ideal s .f32) : FVec Ideal s .f32 := vword (addi (vexpo (vfield t)) (broadcast s 127#32))

/-- The kernel's reciprocal scale. -/
def vkinv (t : FVec Ideal s .f32) : FVec Ideal s .f32 := vword (subi (broadcast s 127#32) (vexpo (vfield t)))

theorem vstep_apply (t : FVec Ideal s .f32) (b : BitVec 32) (f : IVec s 32) (j : s.Idx) :
    vstep t b f j = step (t j) b (f j) := by
  unfold step word; rfl

theorem vfield_apply (t : FVec Ideal s .f32) (j : s.Idx) : vfield t j = field (t j) := by
  simp only [vfield, vstep_apply]
  rfl

theorem vexpo_apply (f : IVec s 32) (j : s.Idx) : vexpo f j = expoOf (f j) := rfl

theorem vword_apply (e : IVec s 32) (j : s.Idx) : vword e j = word (clampField (e j)) := by
  unfold word; rfl

/-- The kernel's scale is the reference's. -/
theorem vkscale_apply (t : FVec Ideal s .f32) (j : s.Idx) : vkscale t j = rscale ln2 (t j) := by
  unfold ln2
  rw [← kscale_eq]
  unfold vkscale kscale
  rw [vword_apply, ← vfield_apply, ← vexpo_apply]
  rfl

/-- The kernel's reciprocal scale is the reference's. -/
theorem vkinv_apply (t : FVec Ideal s .f32) (j : s.Idx) : vkinv t j = rinv ln2 (t j) := by
  unfold ln2
  rw [← kinv_eq]
  unfold vkinv kinv
  rw [vword_apply, ← vfield_apply, ← vexpo_apply]
  rfl

/-- The reference's exponent. -/
theorem vrexpo_apply (t : FVec Ideal s .f32) (j : s.Idx) :
    select (ori (cmpf .olt t (broadcast s (Ideal.ofBits .f32 0x00800000#32))) (cmpf .oeq t (broadcast s (Ideal.ofBits .f32 0x7F800000#32))))
        (broadcast s (Ideal.ofBits .f32 0x00000000#32))
        (addf (F := Ideal) (floor (divf (log t) (broadcast s ln2))) (broadcast s (Ideal.ofBits .f32 0x3F800000#32))) j
      = rexpo ln2 (t j) := rfl

/-- The reference's scale, from the exponent. -/
theorem vrscale_apply (e : FVec Ideal s .f32) (j : s.Idx) (t : EReal) (h : e j = rexpo ln2 t) :
    select (cmpf .ogt e (broadcast s (Ideal.ofBits .f32 0x42FE0000#32))) (broadcast s (Ideal.ofBits .f32 0x7F800000#32)) (exp2 (F := Ideal) e) j
      = rscale ln2 t := by
  unfold rscale
  rw [← h]
  rfl

/-- The reference's reciprocal scale, from the exponent. -/
theorem vrinv_apply (e : FVec Ideal s .f32) (j : s.Idx) (t : EReal) (h : e j = rexpo ln2 t) :
    select (cmpf .ogt e (broadcast s (Ideal.ofBits .f32 0x42FC0000#32))) (broadcast s (Ideal.ofBits .f32 0x00000000#32))
        (exp2 (F := Ideal) (subf (broadcast s (Ideal.ofBits .f32 0x00000000#32)) e)) j
      = rinv ln2 t := by
  unfold rinv
  rw [← h]
  rfl

end Columns

end Cert.Rows

end
-- ==== Proof.NormQkvRows.lean ====
/- The norm and the first projection, row by row: what the kernel's body leaves in the five output blocks of a grid
   point, at an index, in terms of the row functions of `Rows.lean` applied to the rows of the input blocks. -/
module

public import proofs.«01_k».proof.Proof.Rows
public import proofs.«01_k».proof.Proof.Gen.NormQkvIdeal.Value

@[expose] public section

set_option maxRecDepth 16384

noncomputable section

namespace Cert.NormQkvIdeal.Rows

open Cert.NormQkvIdeal Cert.NormQkvIdeal.Gen Idealize.ShloMosaic Idealize.ShloMosaic.TcCoe Idealize.ShloMosaic.ValueIdx Cert.Quant Cert.Rows
open scoped BigOperators

section Payloads

variable (x : Vec Ideal S512x3584 .bf16) (g : Vec Ideal S1x3584 .bf16) (w : Vec Ideal S3584x2304 .fp8e4m3) (ws : Vec Ideal S1x2304 .f32)

/-- The named constant is the reciprocal of the row's length. -/
theorem inv_d_eq : (Named.named (F := Ideal) κ "inv_d" 0x39924925#32 : Ideal .f32) = ((1 / 3584 : ℝ) : EReal) :=
  IdealRules.named_const.ideal_named_scalar _ _ _ _ rfl

/-- The sizes of row `r` after the norm. -/
def ra (r : Fin 512) : Fin 3584 → EReal := rowAbs (fun k : Fin 3584 => x (ix2 r k)) (fun k : Fin 3584 => g (ix2 0 k))

/-- The column of reciprocal roots. -/
theorem inv_eq (r : Fin 512) (z : Fin 1) :
    rsqrt (addf (mulf (shapeCast S512x1 (multiReduction (F := Ideal) .add [1] S512 (mulf (F := Ideal) (extf .f32 x bitsLt_bf16_f32) (extf .f32 x bitsLt_bf16_f32)) 0x00000000#32 reduces_S512x3584_S512 (.inl rfl) rfl) shapeCasts_S512_S512x1)
        (broadcast S512x1 (((1 / 3584 : ℝ) : EReal) : Ideal .f32))) (broadcast S512x1 (Ideal.ofBits .f32 0x358637BD#32))) (ix2 r z)
      = Ideal.rsqrt ((∑ i : Fin 3584, x (ix2 r i) * x (ix2 r i)) * ((1 / 3584 : ℝ) : EReal) + Ideal.ofBits .f32 0x358637BD#32) :=
  (inv_apply _ _ _ _).trans (congrArg (fun u : EReal => Ideal.rsqrt (u * ((1 / 3584 : ℝ) : EReal) + Ideal.ofBits .f32 0x358637BD#32)) (rowsum_apply _ _ _ _ _ r z))

/-- The normalised row. -/
theorem norm_apply (r : Fin 512) (c : Fin 3584) :
    k0_pay5 (F := Ideal) x g (ix2 r c) = rowNorm (fun k : Fin 3584 => x (ix2 r k)) (fun k : Fin 3584 => g (ix2 0 k)) c := by
  simp only [k0_pay5, lit, inv_d_eq, mulf_apply, extf_apply]
  rw [bcol_apply, brow_apply, inv_eq, extf_apply, rowNorm]

theorem abs_eq (r : Fin 512) : (fun k : Fin 3584 => absf (k0_pay5 (F := Ideal) x g) (ix2 r k)) = ra x g r :=
  funext fun k => by rw [abs_apply, norm_apply, ra, rowAbs]

/-- The number whose exponent field is searched for. -/
theorem t_apply (r : Fin 512) (z : Fin 1) : k0_pay6 (F := Ideal) x g (ix2 r z) = rowT (ra x g r) :=
  (Cert.Rows.t_apply _ _).trans (congrArg (fun u : EReal => u * Ideal.ofBits .f32 0x3B124925#32)
    ((rowmax_apply _ _ _ _ _ _ r z).trans (congrArg (Finset.fold max (Ideal.ofBits .f32 0xFF800000#32) · Finset.univ) (abs_eq x g r))))

/-- The scale of the block. -/
def scaleB : FVec Ideal S512x1 .f32 :=
  k0_pay12 (k0_pay6 x g) (k0_pay9 (k0_pay6 x g) (k0_pay7 x g) (k0_pay8 x g)) (k0_pay10 (k0_pay6 x g) (k0_pay7 x g) (k0_pay8 x g))

/-- The codes of the block. -/
def codeB : FVec Ideal S512x3584 .fp8e4m3 :=
  k0_pay13 (k0_pay5 x g) (k0_pay6 x g) (k0_pay9 (k0_pay6 x g) (k0_pay7 x g) (k0_pay8 x g)) (k0_pay10 (k0_pay6 x g) (k0_pay7 x g) (k0_pay8 x g))

/-- The projection of the block. -/
def projB : FVec Ideal S512x2304 .bf16 := k0_pay1 (scaleB x g) (codeB x g) w ws

/-- The exponent the printed steps find is the search's. -/
theorem expo_eq (t : FVec Ideal S512x1 .f32) (f f' : IVec S512x1 32)
    (hf : f = vstep t 64#32 (vstep t 128#32 (broadcast S512x1 0#32))) (hf' : f' = addi f (broadcast S512x1 32#32)) :
    k0_pay11 t (k0_pay9 t f f') (k0_pay10 t f f') = vexpo (vfield t) := by
  have e : vstep t 2#32 (vstep t 4#32 (vstep t 8#32 (vstep t 16#32 (vstep t 32#32 f)))) = k0_pay9 t f f' := by rw [hf']; rfl
  have e' : k0_pay10 t f f' = addi (k0_pay9 t f f') (broadcast S512x1 1#32) := rfl
  rw [e', ← e, hf]
  rfl

theorem expoB : k0_pay11 (k0_pay6 x g) (k0_pay9 (k0_pay6 x g) (k0_pay7 x g) (k0_pay8 x g)) (k0_pay10 (k0_pay6 x g) (k0_pay7 x g) (k0_pay8 x g))
    = vexpo (vfield (k0_pay6 x g)) :=
  expo_eq _ _ _ rfl rfl

/-- The scale. -/
theorem scale_apply (r : Fin 512) (z : Fin 1) : scaleB x g (ix2 r z) = rowScale (ra x g r) := by
  have e : scaleB x g = vkscale (k0_pay6 x g) := by
    unfold scaleB k0_pay12
    simp only [expoB]
    rfl
  rw [e, vkscale_apply, t_apply, rowScale]

/-- The codes. -/
theorem code_apply (r : Fin 512) (c : Fin 3584) :
    codeB x g (ix2 r c) = rowCode (ra x g r) (rowNorm (fun k : Fin 3584 => x (ix2 r k)) (fun k : Fin 3584 => g (ix2 0 k)) c) := by
  unfold codeB
  simp only [k0_pay13, expoB, lit, truncf_apply, minimumf_apply, maximumf_apply, mulf_apply, broadcast_apply]
  rw [bcol_apply, norm_apply]
  have e : vkinv (k0_pay6 x g) (ix2 r 0) = rinv ln2 (rowT (ra x g r)) := by rw [vkinv_apply, t_apply]
  rw [rowCode, clip, ← e]
  rfl

/-- The projection. -/
theorem proj_apply (r : Fin 512) (c : Fin 2304) :
    projB x g w ws (ix2 r c)
      = rowDot (ra x g r) (rowNorm (fun k : Fin 3584 => x (ix2 r k)) (fun k : Fin 3584 => g (ix2 0 k))) (fun k : Fin 3584 => w (ix2 k c)) (ws (ix2 0 c)) := by
  unfold rowDot projB k0_pay1
  dsimp only
  simp only [truncf_apply, mulf_apply, matmul, shapeCast_self]
  rw [bcol_apply, brow_apply, show dot_S512x3584_S3584x2304_S512x2304_1_0_0_1_n_n = DotDims.plain 512 3584 2304 from rfl]
  erw [dot_apply]
  simp only [code_apply, scale_apply]

/-- The result `q`: the columns from 0 on. -/
theorem q_apply (r : Fin 512) (c : Fin 1792) :
    k0_pay2 (F := Ideal) (scaleB x g) (codeB x g) w ws (ix2 r c)
      = rowDot (ra x g r) (rowNorm (fun k : Fin 3584 => x (ix2 r k)) (fun k : Fin 3584 => g (ix2 0 k)))
          (fun k : Fin 3584 => w (ix2 k (col 0 2304 (by omega) c))) (ws (ix2 0 (col 0 2304 (by omega) c))) := by
  simp only [k0_pay2]
  rw [slice2_axis1_apply _ _ _ r c (col 0 2304 (by omega) c) rfl]
  exact proj_apply x g w ws r _

/-- The result `k`: the columns from 1792 on. -/
theorem k_apply (r : Fin 512) (c : Fin 256) :
    k0_pay3 (F := Ideal) (scaleB x g) (codeB x g) w ws (ix2 r c)
      = rowDot (ra x g r) (rowNorm (fun k : Fin 3584 => x (ix2 r k)) (fun k : Fin 3584 => g (ix2 0 k)))
          (fun k : Fin 3584 => w (ix2 k (col 1792 2304 (by omega) c))) (ws (ix2 0 (col 1792 2304 (by omega) c))) := by
  simp only [k0_pay3]
  rw [slice2_axis1_apply _ _ _ r c (col 1792 2304 (by omega) c) rfl]
  exact proj_apply x g w ws r _

/-- The result `v`: the columns from 2048 on. -/
theorem v_apply (r : Fin 512) (c : Fin 256) :
    k0_pay4 (F := Ideal) (scaleB x g) (codeB x g) w ws (ix2 r c)
      = rowDot (ra x g r) (rowNorm (fun k : Fin 3584 => x (ix2 r k)) (fun k : Fin 3584 => g (ix2 0 k)))
          (fun k : Fin 3584 => w (ix2 k (col 2048 2304 (by omega) c))) (ws (ix2 0 (col 2048 2304 (by omega) c))) := by
  simp only [k0_pay4]
  rw [slice2_axis1_apply _ _ _ r c (col 2048 2304 (by omega) c) rfl]
  exact proj_apply x g w ws r _

end Payloads

/-! ## The output blocks -/

theorem hz : (![0, 0] : Fin 2 → Nat) = fun _ => 0 := funext fun a => by fin_cases a <;> rfl

section Blocks

variable (c : Dev nD) (i : grid0.Coords) (arg1 : Memref sig .tc .vmem S512x3584 .bf16) (harg1 : arg1.IsWhole)
  (arg2 : Memref sig .tc .vmem S1x3584 .bf16) (harg2 : arg2.IsWhole)
  (arg3 : Memref sig .tc .vmem S3584x2304 .fp8e4m3) (harg3 : arg3.IsWhole)
  (arg4 : Memref sig .tc .vmem S1x2304 .f32) (harg4 : arg4.IsWhole)
  (arg5 : Memref sig .tc .vmem S512x1792 .bf16) (harg5 : arg5.IsWhole)
  (arg6 : Memref sig .tc .vmem S512x256 .bf16) (harg6 : arg6.IsWhole)
  (arg7 : Memref sig .tc .vmem S512x256 .bf16) (harg7 : arg7.IsWhole)
  (arg8 : Memref sig .tc .vmem S512x3584 .fp8e4m3) (harg8 : arg8.IsWhole)
  (arg9 : Memref sig .tc .vmem S512x1 .f32) (harg9 : arg9.IsWhole)
  (x0 : Vec Ideal S512x3584 .bf16) (x1 : Vec Ideal S1x3584 .bf16) (x2 : Vec Ideal S3584x2304 .fp8e4m3) (x3 : Vec Ideal S1x2304 .f32)

/-- The block of output window 8. -/
theorem out8 : out0_A_8 c i arg1 harg1 arg2 harg2 arg3 harg3 arg4 harg4 arg5 harg5 arg6 harg6 arg7 harg7 arg8 harg8 arg9 harg9 x0 x1 x2 x3 = scaleB x0 x1 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3)]
  unfold kernelRun0_A
  dsimp only
  sl_unfold_words
  rw [View.canon_unit_zero hz]
  simp only [View.readAt_eq_ld, harg1.read_unread, harg2.read_unread, View.ld_unit_zero (S := S512x3584) hz, View.ld_unit_zero (S := S1x3584) hz]
  rfl

/-- The block of output window 7. -/
theorem out7 : out0_A_7 c i arg1 harg1 arg2 harg2 arg3 harg3 arg4 harg4 arg5 harg5 arg6 harg6 arg7 harg7 arg8 harg8 arg9 harg9 x0 x1 x2 x3 = codeB x0 x1 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3)]
  unfold kernelRun0_A
  dsimp only
  sl_unfold_words
  rw [View.canon_unit_zero hz]
  simp only [View.readAt_eq_ld, harg1.read_unread, harg2.read_unread, View.ld_unit_zero (S := S512x3584) hz, View.ld_unit_zero (S := S1x3584) hz]
  rfl

/-- The block of output window 4. -/
theorem out4 : out0_A_4 c i arg1 harg1 arg2 harg2 arg3 harg3 arg4 harg4 arg5 harg5 arg6 harg6 arg7 harg7 arg8 harg8 arg9 harg9 x0 x1 x2 x3 = k0_pay2 (scaleB x0 x1) (codeB x0 x1) x2 x3 := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2 x3)]
  unfold kernelRun0_A
  dsimp only
  sl_unfold_words
  rw [View.canon_unit_zero hz]
  simp only [View.readAt_eq_ld, harg1.read_unread, harg2.read_unread, harg3.read_unread, harg4.read_unread, View.ld_unit_zero (S := S512x3584) hz, View.ld_unit_zero (S := S1x3584) hz, View.ld_unit_zero (S := S3584x2304) hz, View.ld_unit_zero (S := S1x2304) hz, View.readCov_unit_zero (S := S512x3584) _ hz]
  rfl

/-- The block of output window 5. -/
theorem out5 : out0_A_5 c i arg1 harg1 arg2 harg2 arg3 harg3 arg4 harg4 arg5 harg5 arg6 harg6 arg7 harg7 arg8 harg8 arg9 harg9 x0 x1 x2 x3 = k0_pay3 (scaleB x0 x1) (codeB x0 x1) x2 x3 := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3)]
  unfold kernelRun0_A
  dsimp only
  sl_unfold_words
  rw [View.canon_unit_zero hz]
  simp only [View.readAt_eq_ld, harg1.read_unread, harg2.read_unread, harg3.read_unread, harg4.read_unread, View.ld_unit_zero (S := S512x3584) hz, View.ld_unit_zero (S := S1x3584) hz, View.ld_unit_zero (S := S3584x2304) hz, View.ld_unit_zero (S := S1x2304) hz, View.readCov_unit_zero (S := S512x3584) _ hz]
  rfl

/-- The block of output window 6. -/
theorem out6 : out0_A_6 c i arg1 harg1 arg2 harg2 arg3 harg3 arg4 harg4 arg5 harg5 arg6 harg6 arg7 harg7 arg8 harg8 arg9 harg9 x0 x1 x2 x3 = k0_pay4 (scaleB x0 x1) (codeB x0 x1) x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3)]
  unfold kernelRun0_A
  dsimp only
  sl_unfold_words
  rw [View.canon_unit_zero hz]
  simp only [View.readAt_eq_ld, harg1.read_unread, harg2.read_unread, harg3.read_unread, harg4.read_unread, View.ld_unit_zero (S := S512x3584) hz, View.ld_unit_zero (S := S1x3584) hz, View.ld_unit_zero (S := S3584x2304) hz, View.ld_unit_zero (S := S1x2304) hz, View.readCov_unit_zero (S := S512x3584) _ hz]
  rfl

end Blocks

end Cert.NormQkvIdeal.Rows

end
-- ==== Proof.NormQkvRefRows.lean ====
/- The reference of the norm and the first projection, row by row: its five results at an index are the row functions
   of `Rows.lean`. -/
module

public import proofs.«01_k».proof.Proof.Rows
public import proofs.«01_k».proof.Proof.Gen.NormQkvRefIdeal.Value

@[expose] public section

set_option maxRecDepth 16384

noncomputable section

namespace Cert.NormQkvRefIdeal.Rows

open Cert.NormQkvRefIdeal Cert.NormQkvRefIdeal.Gen Idealize.ShloMosaic Idealize.ShloMosaic.ValueIdx Cert.Quant Cert.Rows
open scoped BigOperators

variable (x : Vec Ideal S4096x3584 .bf16) (g : Vec Ideal S1x3584 .bf16) (w : Vec Ideal S3584x21248 .fp8e4m3) (ws : Vec Ideal S1x21248 .f32)

/-- The named constant is the natural logarithm of two. -/
theorem log2_eq : (Named.named (F := Ideal) κ "log2" 0x3F317218#32 : Ideal .f32) = ln2 :=
  IdealRules.named_const.ideal_named_scalar _ _ _ _ rfl

/-- The sizes of row `r` after the norm. -/
def ra (r : Fin 4096) : Fin 3584 → EReal := rowAbs (fun k : Fin 3584 => x (ix2 r k)) (fun k : Fin 3584 => g (ix2 0 k))

/-- The column of reciprocal roots. -/
theorem inv_eq (r : Fin 4096) (z : Fin 1) :
    rsqrt (addf (divf (shapeCast S4096x1 (multiReduction (F := Ideal) .add [1] S4096 (mulf (F := Ideal) (extf .f32 x bitsLt_bf16_f32) (extf .f32 x bitsLt_bf16_f32)) 0x00000000#32 reduces_S4096x3584_S4096 (.inl rfl) rfl) shapeCasts_S4096_S4096x1)
        (broadcast S4096x1 (Ideal.ofBits .f32 0x45600000#32))) (broadcast S4096x1 (Ideal.ofBits .f32 0x358637BD#32))) (ix2 r z)
      = Ideal.rsqrt ((∑ i : Fin 3584, x (ix2 r i) * x (ix2 r i)) * ((1 / 3584 : ℝ) : EReal) + Ideal.ofBits .f32 0x358637BD#32) :=
  (inv_div_apply _ _ _).trans (congrArg (fun u : EReal => Ideal.rsqrt (u * ((1 / 3584 : ℝ) : EReal) + Ideal.ofBits .f32 0x358637BD#32)) (rowsum_apply _ _ _ _ _ r z))

/-- The normalised row. -/
theorem norm_apply (r : Fin 4096) (c : Fin 3584) :
    k0_pay6 (F := Ideal) x g (ix2 r c) = rowNorm (fun k : Fin 3584 => x (ix2 r k)) (fun k : Fin 3584 => g (ix2 0 k)) c := by
  simp only [k0_pay6, lit, mulf_apply, extf_apply]
  rw [bcol_apply, brow_apply, inv_eq, extf_apply, rowNorm]

/-- The number whose binary exponent is taken. -/
def t : FVec Ideal S4096x1 .f32 :=
  mulf (shapeCast S4096x1 (multiReduction .maximumf [1] S4096 (absf (k0_pay6 (F := Ideal) x g)) 0xFF800000#32 reduces_S4096x3584_S4096 (.inl rfl) rfl) shapeCasts_S4096_S4096x1)
    (broadcast S4096x1 (Scalar.ofBits (F := Ideal) .f32 0x3B124925#32))

theorem abs_eq (r : Fin 4096) : (fun k : Fin 3584 => absf (k0_pay6 (F := Ideal) x g) (ix2 r k)) = ra x g r :=
  funext fun k => by rw [abs_apply, norm_apply, ra, rowAbs]

theorem t_apply (r : Fin 4096) (z : Fin 1) : t x g (ix2 r z) = rowT (ra x g r) :=
  (Cert.Rows.t_apply _ _).trans (congrArg (fun u : EReal => u * Ideal.ofBits .f32 0x3B124925#32)
    ((rowmax_apply _ _ _ _ _ _ r z).trans (congrArg (Finset.fold max (Ideal.ofBits .f32 0xFF800000#32) · Finset.univ) (abs_eq x g r))))

/-- The exponent. -/
theorem e_apply (r : Fin 4096) (z : Fin 1) : k0_pay7 (F := Ideal) x g (ix2 r z) = rexpo ln2 (rowT (ra x g r)) := by
  rw [← t_apply x g r z, ← vrexpo_apply]
  simp only [k0_pay7, log2_eq, lit, t]

/-- The scale. -/
theorem scale_apply (r : Fin 4096) (z : Fin 1) : k0_pay8 (F := Ideal) x g (ix2 r z) = rowScale (ra x g r) := by
  simp only [k0_pay8, lit]
  exact vrscale_apply _ _ _ (e_apply x g r z)

/-- The reference's codes. -/
def codes : FVec Ideal S4096x3584 .fp8e4m3 := k0_pay1 (k0_pay6 x g) (k0_pay7 x g) (k0_pay9 x g) (k0_pay10 (F := Ideal))

/-- The codes. -/
theorem code_apply (r : Fin 4096) (c : Fin 3584) :
    codes x g (ix2 r c) = rowCode (ra x g r) (rowNorm (fun k : Fin 3584 => x (ix2 r k)) (fun k : Fin 3584 => g (ix2 0 k)) c) := by
  have e : codes x g = truncf (F := Ideal) .fp8e4m3 (minimumf (broadcast S4096x3584 (Ideal.ofBits .f32 0x43E00000#32)) (maximumf (broadcast S4096x3584 (Ideal.ofBits .f32 0xC3E00000#32))
      (mulf (k0_pay6 x g) (broadcastTo S4096x3584 (select (cmpf .ogt (k0_pay7 x g) (broadcast S4096x1 (Ideal.ofBits .f32 0x42FC0000#32))) (broadcast S4096x1 (Ideal.ofBits .f32 0x00000000#32))
        (exp2 (F := Ideal) (subf (broadcast S4096x1 (Ideal.ofBits .f32 0x00000000#32)) (k0_pay7 x g)))) broadcasts_S4096x1_S4096x3584)))) bitsLt_fp8e4m3_f32 := rfl
  rw [e, vcode_apply, bcol_apply, vrinv_apply _ _ _ (e_apply x g r 0), norm_apply, rowCode]

/-- The entry of row `r` and column `c` of the projection. -/
theorem proj_apply (r : Fin 4096) (c : Fin 2304) :
    k0_pay2 (F := Ideal) (k0_pay6 x g) (k0_pay7 x g) (k0_pay8 x g) (k0_pay9 x g) k0_pay10 w ws (ix2 r c)
      = rowDot (ra x g r) (rowNorm (fun k : Fin 3584 => x (ix2 r k)) (fun k : Fin 3584 => g (ix2 0 k)))
          (fun k : Fin 3584 => w (ix2 k (col 0 21248 (by omega) c))) (ws (ix2 0 (col 0 21248 (by omega) c))) := by
  unfold rowDot k0_pay2
  dsimp only
  simp only [mulf_apply, matmul]
  rw [bcol_apply, brow_apply, show dot_S4096x3584_S3584x2304_S4096x2304_1_0_0_1_n_n = DotDims.plain 4096 3584 2304 from rfl]
  erw [dot_apply]
  rw [slice2_axis1_apply _ _ _ (0 : Fin 1) c (col 0 21248 (by omega) c) rfl]
  have e : ∀ k : Fin 3584, extractStridedSlice S3584x2304 ![0, 0] w slices_S3584x21248_o0_0_S3584x2304 (ix2 k c) = w (ix2 k (col 0 21248 (by omega) c)) :=
    fun k => slice2_axis1_apply _ _ _ k c (col 0 21248 (by omega) c) rfl
  simp only [e, scale_apply]
  rw [← codes]
  simp only [code_apply]

/-- The result `q`: the columns from 0 on. -/
theorem q_apply (r : Fin 4096) (c : Fin 1792) :
    k0_pay3 (F := Ideal) (k0_pay6 x g) (k0_pay7 x g) (k0_pay8 x g) (k0_pay9 x g) k0_pay10 w ws (ix2 r c)
      = rowDot (ra x g r) (rowNorm (fun k : Fin 3584 => x (ix2 r k)) (fun k : Fin 3584 => g (ix2 0 k)))
          (fun k : Fin 3584 => w (ix2 k (col 0 21248 (by omega) c))) (ws (ix2 0 (col 0 21248 (by omega) c))) := by
  simp only [k0_pay3, truncf_apply]
  rw [slice2_axis1_apply _ _ _ r c (col 0 2304 (by omega) c) rfl, proj_apply]
  have e : col 0 21248 (by omega) (col 0 2304 (by omega) c) = col 0 21248 (by omega) c := Fin.ext (Nat.zero_add _)
  rw [e]

/-- The result `k`: the columns from 1792 on. -/
theorem k_apply (r : Fin 4096) (c : Fin 256) :
    k0_pay4 (F := Ideal) (k0_pay6 x g) (k0_pay7 x g) (k0_pay8 x g) (k0_pay9 x g) k0_pay10 w ws (ix2 r c)
      = rowDot (ra x g r) (rowNorm (fun k : Fin 3584 => x (ix2 r k)) (fun k : Fin 3584 => g (ix2 0 k)))
          (fun k : Fin 3584 => w (ix2 k (col 1792 21248 (by omega) c))) (ws (ix2 0 (col 1792 21248 (by omega) c))) := by
  simp only [k0_pay4, truncf_apply]
  rw [slice2_axis1_apply _ _ _ r c (col 1792 2304 (by omega) c) rfl, proj_apply]
  have e : col 0 21248 (by omega) (col 1792 2304 (by omega) c) = col 1792 21248 (by omega) c := Fin.ext (Nat.zero_add _)
  rw [e]

/-- The result `v`: the columns from 2048 on. -/
theorem v_apply (r : Fin 4096) (c : Fin 256) :
    k0_pay5 (F := Ideal) (k0_pay6 x g) (k0_pay7 x g) (k0_pay8 x g) (k0_pay9 x g) k0_pay10 w ws (ix2 r c)
      = rowDot (ra x g r) (rowNorm (fun k : Fin 3584 => x (ix2 r k)) (fun k : Fin 3584 => g (ix2 0 k)))
          (fun k : Fin 3584 => w (ix2 k (col 2048 21248 (by omega) c))) (ws (ix2 0 (col 2048 21248 (by omega) c))) := by
  simp only [k0_pay5, truncf_apply]
  rw [slice2_axis1_apply _ _ _ r c (col 2048 2304 (by omega) c) rfl, proj_apply]
  have e : col 0 21248 (by omega) (col 2048 2304 (by omega) c) = col 2048 21248 (by omega) c := Fin.ext (Nat.zero_add _)
  rw [e]

end Cert.NormQkvRefIdeal.Rows

end
-- ==== Proof.NormQkvValue.lean ====
/- The norm and the first projection: the kernel's five result arrays after its run are the row functions of
   `Rows.lean` applied to the rows of the argument arrays, and so are the reference's. -/
module

public import proofs.«01_k».proof.Defs
public import proofs.«01_k».proof.Proof.NormQkvRows
public import proofs.«01_k».proof.Proof.NormQkvRefRows

@[expose] public section

set_option maxRecDepth 16384

noncomputable section

namespace Cert.NormQkvIdeal.Rows

open Cert.NormQkvIdeal Cert.NormQkvIdeal.Gen Idealize.ShloMosaic Idealize.ShloMosaic.TcCoe Idealize.ShloMosaic.ValueIdx Idealize.SL.Sem Cert.Quant Cert.Rows
open Idealize.ShloMosaic.Pipeline (Dat)
open scoped BigOperators

/-! ## The results on whole arrays -/

/-- The sizes of a row after the norm. -/
def rowA (x : Vec Ideal S4096x3584 .bf16) (g : Vec Ideal S1x3584 .bf16) (r : Fin 4096) : Fin 3584 → EReal :=
  rowAbs (fun k : Fin 3584 => x (ix2 r k)) (fun k : Fin 3584 => g (ix2 0 k))

/-- A row after the norm. -/
def rowN (x : Vec Ideal S4096x3584 .bf16) (g : Vec Ideal S1x3584 .bf16) (r : Fin 4096) : Fin 3584 → EReal :=
  rowNorm (fun k : Fin 3584 => x (ix2 r k)) (fun k : Fin 3584 => g (ix2 0 k))

/-- The scales. -/
def scaleW (x : Vec Ideal S4096x3584 .bf16) (g : Vec Ideal S1x3584 .bf16) : Vec Ideal S4096x1 .f32 := fun i => rowScale (rowA x g (i 0))

/-- The codes. -/
def codeW (x : Vec Ideal S4096x3584 .bf16) (g : Vec Ideal S1x3584 .bf16) : Vec Ideal S4096x3584 .fp8e4m3 :=
  fun i => rowCode (rowA x g (i 0)) (rowN x g (i 0) (i 1))

/-- An entry of the projection. -/
def projE (x : Vec Ideal S4096x3584 .bf16) (g : Vec Ideal S1x3584 .bf16) (w : Vec Ideal S3584x21248 .fp8e4m3) (ws : Vec Ideal S1x21248 .f32)
    (r : Fin 4096) (c : Fin 21248) : EReal :=
  rowDot (rowA x g r) (rowN x g r) (fun k : Fin 3584 => w (ix2 k c)) (ws (ix2 0 c))

/-- The result `q`. -/
def qW (x : Vec Ideal S4096x3584 .bf16) (g : Vec Ideal S1x3584 .bf16) (w : Vec Ideal S3584x21248 .fp8e4m3) (ws : Vec Ideal S1x21248 .f32) : Vec Ideal S4096x1792 .bf16 :=
  fun i => projE x g w ws (i 0) (col (n := 1792) 0 21248 (by omega) (i 1))

/-- The result `k`. -/
def kW (x : Vec Ideal S4096x3584 .bf16) (g : Vec Ideal S1x3584 .bf16) (w : Vec Ideal S3584x21248 .fp8e4m3) (ws : Vec Ideal S1x21248 .f32) : Vec Ideal S4096x256 .bf16 :=
  fun i => projE x g w ws (i 0) (col (n := 256) 1792 21248 (by omega) (i 1))

/-- The result `v`. -/
def vW (x : Vec Ideal S4096x3584 .bf16) (g : Vec Ideal S1x3584 .bf16) (w : Vec Ideal S3584x21248 .fp8e4m3) (ws : Vec Ideal S1x21248 .f32) : Vec Ideal S4096x256 .bf16 :=
  fun i => projE x g w ws (i 0) (col (n := 256) 2048 21248 (by omega) (i 1))

/-! ## Where the blocks lie -/

variable (m : (ℓ : Loc nD τ sig) → Buf (Elt Ideal) ℓ) (ρ : Dev nD → PrngReg)

/-- Row `r` of the block of point `t`. -/
def row (t : Fin cfg0.N) (r : Fin 512) : Fin 4096 :=
  ⟨t.val * 512 + r.val, by have h := t.isLt; have hN : cfg0.N = 8 := N_0; have := r.isLt; omega⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (r : Fin 512) (k : Fin 3584) :
    ((cfg0.win 0).blk t).view.emb (ix2 r k : S512x3584.Idx) = (ix2 (row t r) k : S4096x3584.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 3584 + 1 * k.val = k.val; omega

theorem iblk0 (c : Dev nD) (t : Fin cfg0.N) (r : Fin 512) (k : Fin 3584) :
    iblk m c 0 t (ix2 r k : S512x3584.Idx) = V m c main_arg0 (ix2 (row t r) k : S4096x3584.Idx) := by
  show V m c main_arg0 (((cfg0.win 0).blk t).view.emb (ix2 r k : S512x3584.Idx)) = _
  rw [emb0]

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem emb1 (t : Fin cfg0.N) (j : S1x3584.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 3584 + 1 * (j 1).val = (j 1).val; omega

theorem iblk1 (c : Dev nD) (t : Fin cfg0.N) : iblk m c 1 t = V m c main_arg1 := by
  funext j
  show V m c main_arg1 (((cfg0.win 1).blk t).view.emb j) = _
  rw [emb1]

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 2's block is the first 2304 columns of its array. -/
theorem X2 (c : Dev nD) (t : Fin cfg0.N) (r : Fin 3584) (k : Fin 2304) :
    X0_2 m c t (ix2 r k : S3584x2304.Idx) = V m c main_arg2 (ix2 r (col 0 21248 (by omega) k) : S3584x21248.Idx) := by
  obtain ⟨e0, e1⟩ := idx2 t
  unfold X0_2 Pipeline.Window.fill
  rw [dif_pos (moved0_2 t (ix2 r k : S3584x2304.Idx))]
  show V m c main_arg2 (((cfg0.win 2).blk t).view.emb _) = _
  refine congrArg (V m c main_arg2) ?_
  funext a; apply Fin.ext
  match a with
  | ⟨0, _⟩ => show win0_2.index t (0 : Fin 2) * 3584 + 1 * r.val = r.val; omega
  | ⟨1, _⟩ => show win0_2.index t (1 : Fin 2) * 2304 + 1 * k.val = 0 + k.val; omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's block is the first 2304 columns of its array. -/
theorem X3 (c : Dev nD) (t : Fin cfg0.N) (r : Fin 1) (k : Fin 2304) :
    X0_3 m c t (ix2 r k : S1x2304.Idx) = V m c main_arg3 (ix2 r (col 0 21248 (by omega) k) : S1x21248.Idx) := by
  obtain ⟨e0, e1⟩ := idx3 t
  unfold X0_3 Pipeline.Window.fill
  rw [dif_pos (moved0_3 t (ix2 r k : S1x2304.Idx))]
  show V m c main_arg3 (((cfg0.win 3).blk t).view.emb _) = _
  refine congrArg (V m c main_arg3) ?_
  funext a; apply Fin.ext
  match a with
  | ⟨0, _⟩ => show win0_3.index t (0 : Fin 2) * 1 + 1 * r.val = r.val; omega
  | ⟨1, _⟩ => show win0_3.index t (1 : Fin 2) * 2304 + 1 * k.val = 0 + k.val; omega

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem emb4 (t : Fin cfg0.N) (r : Fin 512) (k : Fin 1792) :
    ((cfg0.win 4).blk t).view.emb (ix2 r k : S512x1792.Idx) = (ix2 (row t r) k : S4096x1792.Idx) := by
  obtain ⟨e0, e1⟩ := idx4 t
  funext a; apply Fin.ext
  match a with
  | ⟨0, _⟩ => show win0_4.index t (0 : Fin 2) * 512 + 1 * r.val = t.val * 512 + r.val; omega
  | ⟨1, _⟩ => show win0_4.index t (1 : Fin 2) * 1792 + 1 * k.val = k.val; omega

/-- Every index of result array 4 lies in the block of the point its row belongs to. -/
theorem covered4 (i : S4096x1792.Idx) : ∃ t : Fin cfg0.N, (cfg0.win 4).flush t = true ∧ i ∈ ((cfg0.win 4).blk t).view.set := by
  have h0 : (i 0).val < 4096 := (i 0).isLt
  have hN : cfg0.N = 8 := N_0
  have ht : (i 0).val / 512 < cfg0.N := by rw [hN]; omega
  have hi : i = (ix2 (row ⟨(i 0).val / 512, ht⟩ ⟨(i 0).val % 512, Nat.mod_lt _ (by omega)⟩) (i 1) : S4096x1792.Idx) := by
    refine Shape.idx_ext₂ ?_ rfl
    show (i 0).val = (i 0).val / 512 * 512 + (i 0).val % 512
    omega
  refine ⟨⟨(i 0).val / 512, ht⟩, flush0_4 _, ?_⟩
  have e := hi.trans (emb4 ⟨(i 0).val / 512, ht⟩ ⟨(i 0).val % 512, Nat.mod_lt _ (by omega)⟩ (i 1)).symm
  exact (congrArg (fun z => z ∈ ((cfg0.win 4).blk ⟨(i 0).val / 512, ht⟩).view.set) e).mpr (View.emb_mem_set _ _)

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem emb5 (t : Fin cfg0.N) (r : Fin 512) (k : Fin 256) :
    ((cfg0.win 5).blk t).view.emb (ix2 r k : S512x256.Idx) = (ix2 (row t r) k : S4096x256.Idx) := by
  obtain ⟨e0, e1⟩ := idx5 t
  funext a; apply Fin.ext
  match a with
  | ⟨0, _⟩ => show win0_5.index t (0 : Fin 2) * 512 + 1 * r.val = t.val * 512 + r.val; omega
  | ⟨1, _⟩ => show win0_5.index t (1 : Fin 2) * 256 + 1 * k.val = k.val; omega

/-- Every index of result array 5 lies in the block of the point its row belongs to. -/
theorem covered5 (i : S4096x256.Idx) : ∃ t : Fin cfg0.N, (cfg0.win 5).flush t = true ∧ i ∈ ((cfg0.win 5).blk t).view.set := by
  have h0 : (i 0).val < 4096 := (i 0).isLt
  have hN : cfg0.N = 8 := N_0
  have ht : (i 0).val / 512 < cfg0.N := by rw [hN]; omega
  have hi : i = (ix2 (row ⟨(i 0).val / 512, ht⟩ ⟨(i 0).val % 512, Nat.mod_lt _ (by omega)⟩) (i 1) : S4096x256.Idx) := by
    refine Shape.idx_ext₂ ?_ rfl
    show (i 0).val = (i 0).val / 512 * 512 + (i 0).val % 512
    omega
  refine ⟨⟨(i 0).val / 512, ht⟩, flush0_5 _, ?_⟩
  have e := hi.trans (emb5 ⟨(i 0).val / 512, ht⟩ ⟨(i 0).val % 512, Nat.mod_lt _ (by omega)⟩ (i 1)).symm
  exact (congrArg (fun z => z ∈ ((cfg0.win 5).blk ⟨(i 0).val / 512, ht⟩).view.set) e).mpr (View.emb_mem_set _ _)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem emb6 (t : Fin cfg0.N) (r : Fin 512) (k : Fin 256) :
    ((cfg0.win 6).blk t).view.emb (ix2 r k : S512x256.Idx) = (ix2 (row t r) k : S4096x256.Idx) := by
  obtain ⟨e0, e1⟩ := idx6 t
  funext a; apply Fin.ext
  match a with
  | ⟨0, _⟩ => show win0_6.index t (0 : Fin 2) * 512 + 1 * r.val = t.val * 512 + r.val; omega
  | ⟨1, _⟩ => show win0_6.index t (1 : Fin 2) * 256 + 1 * k.val = k.val; omega

/-- Every index of result array 6 lies in the block of the point its row belongs to. -/
theorem covered6 (i : S4096x256.Idx) : ∃ t : Fin cfg0.N, (cfg0.win 6).flush t = true ∧ i ∈ ((cfg0.win 6).blk t).view.set := by
  have h0 : (i 0).val < 4096 := (i 0).isLt
  have hN : cfg0.N = 8 := N_0
  have ht : (i 0).val / 512 < cfg0.N := by rw [hN]; omega
  have hi : i = (ix2 (row ⟨(i 0).val / 512, ht⟩ ⟨(i 0).val % 512, Nat.mod_lt _ (by omega)⟩) (i 1) : S4096x256.Idx) := by
    refine Shape.idx_ext₂ ?_ rfl
    show (i 0).val = (i 0).val / 512 * 512 + (i 0).val % 512
    omega
  refine ⟨⟨(i 0).val / 512, ht⟩, flush0_6 _, ?_⟩
  have e := hi.trans (emb6 ⟨(i 0).val / 512, ht⟩ ⟨(i 0).val % 512, Nat.mod_lt _ (by omega)⟩ (i 1)).symm
  exact (congrArg (fun z => z ∈ ((cfg0.win 6).blk ⟨(i 0).val / 512, ht⟩).view.set) e).mpr (View.emb_mem_set _ _)

theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem emb7 (t : Fin cfg0.N) (r : Fin 512) (k : Fin 3584) :
    ((cfg0.win 7).blk t).view.emb (ix2 r k : S512x3584.Idx) = (ix2 (row t r) k : S4096x3584.Idx) := by
  obtain ⟨e0, e1⟩ := idx7 t
  funext a; apply Fin.ext
  match a with
  | ⟨0, _⟩ => show win0_7.index t (0 : Fin 2) * 512 + 1 * r.val = t.val * 512 + r.val; omega
  | ⟨1, _⟩ => show win0_7.index t (1 : Fin 2) * 3584 + 1 * k.val = k.val; omega

/-- Every index of result array 7 lies in the block of the point its row belongs to. -/
theorem covered7 (i : S4096x3584.Idx) : ∃ t : Fin cfg0.N, (cfg0.win 7).flush t = true ∧ i ∈ ((cfg0.win 7).blk t).view.set := by
  have h0 : (i 0).val < 4096 := (i 0).isLt
  have hN : cfg0.N = 8 := N_0
  have ht : (i 0).val / 512 < cfg0.N := by rw [hN]; omega
  have hi : i = (ix2 (row ⟨(i 0).val / 512, ht⟩ ⟨(i 0).val % 512, Nat.mod_lt _ (by omega)⟩) (i 1) : S4096x3584.Idx) := by
    refine Shape.idx_ext₂ ?_ rfl
    show (i 0).val = (i 0).val / 512 * 512 + (i 0).val % 512
    omega
  refine ⟨⟨(i 0).val / 512, ht⟩, flush0_7 _, ?_⟩
  have e := hi.trans (emb7 ⟨(i 0).val / 512, ht⟩ ⟨(i 0).val % 512, Nat.mod_lt _ (by omega)⟩ (i 1)).symm
  exact (congrArg (fun z => z ∈ ((cfg0.win 7).blk ⟨(i 0).val / 512, ht⟩).view.set) e).mpr (View.emb_mem_set _ _)

theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

theorem emb8 (t : Fin cfg0.N) (r : Fin 512) (k : Fin 1) :
    ((cfg0.win 8).blk t).view.emb (ix2 r k : S512x1.Idx) = (ix2 (row t r) k : S4096x1.Idx) := by
  obtain ⟨e0, e1⟩ := idx8 t
  funext a; apply Fin.ext
  match a with
  | ⟨0, _⟩ => show win0_8.index t (0 : Fin 2) * 512 + 1 * r.val = t.val * 512 + r.val; omega
  | ⟨1, _⟩ => show win0_8.index t (1 : Fin 2) * 1 + 1 * k.val = k.val; omega

/-- Every index of result array 8 lies in the block of the point its row belongs to. -/
theorem covered8 (i : S4096x1.Idx) : ∃ t : Fin cfg0.N, (cfg0.win 8).flush t = true ∧ i ∈ ((cfg0.win 8).blk t).view.set := by
  have h0 : (i 0).val < 4096 := (i 0).isLt
  have hN : cfg0.N = 8 := N_0
  have ht : (i 0).val / 512 < cfg0.N := by rw [hN]; omega
  have hi : i = (ix2 (row ⟨(i 0).val / 512, ht⟩ ⟨(i 0).val % 512, Nat.mod_lt _ (by omega)⟩) (i 1) : S4096x1.Idx) := by
    refine Shape.idx_ext₂ ?_ rfl
    show (i 0).val = (i 0).val / 512 * 512 + (i 0).val % 512
    omega
  refine ⟨⟨(i 0).val / 512, ht⟩, flush0_8 _, ?_⟩
  have e := hi.trans (emb8 ⟨(i 0).val / 512, ht⟩ ⟨(i 0).val % 512, Nat.mod_lt _ (by omega)⟩ (i 1)).symm
  exact (congrArg (fun z => z ∈ ((cfg0.win 8).blk ⟨(i 0).val / 512, ht⟩).view.set) e).mpr (View.emb_mem_set _ _)

/-! ## What each point writes back -/

theorem ra_eq (c : Dev nD) (t : Fin cfg0.N) (r : Fin 512) : ra (iblk m c 0 t) (iblk m c 1 t) r = rowA (V m c main_arg0) (V m c main_arg1) (row t r) := by
  unfold ra rowA
  simp only [iblk0, iblk1]

theorem rn_eq (c : Dev nD) (t : Fin cfg0.N) (r : Fin 512) :
    rowNorm (fun k : Fin 3584 => iblk m c 0 t (ix2 r k : S512x3584.Idx)) (fun k : Fin 3584 => iblk m c 1 t (ix2 0 k : S1x3584.Idx))
      = rowN (V m c main_arg0) (V m c main_arg1) (row t r) := by
  unfold rowN
  simp only [iblk0, iblk1]

theorem flushed8_eq (c : Dev nD) (t : Fin cfg0.N) :
    (dats m 0 c).flushed 8 t = ((cfg0.win 8).blk t).view.read (Elt Ideal) (scaleW (V m c main_arg0) (V m c main_arg1)) := by
  rw [Value.flushed8_A, out8]
  funext j
  obtain ⟨r, k, rfl⟩ : ∃ (r : Fin 512) (k : Fin 1), j = (ix2 r k : S512x1.Idx) := ⟨j 0, j 1, eq_ix2 j⟩
  show scaleB (iblk m c 0 t) (iblk m c 1 t) (ix2 r k) = scaleW (V m c main_arg0) (V m c main_arg1) (((cfg0.win 8).blk t).view.emb (ix2 r k : S512x1.Idx))
  rw [emb8]
  exact (scale_apply (iblk m c 0 t) (iblk m c 1 t) r k).trans (congrArg rowScale (ra_eq m c t r))

theorem flushed7_eq (c : Dev nD) (t : Fin cfg0.N) :
    (dats m 0 c).flushed 7 t = ((cfg0.win 7).blk t).view.read (Elt Ideal) (codeW (V m c main_arg0) (V m c main_arg1)) := by
  rw [Value.flushed7_A, out7]
  funext j
  obtain ⟨r, k, rfl⟩ : ∃ (r : Fin 512) (k : Fin 3584), j = (ix2 r k : S512x3584.Idx) := ⟨j 0, j 1, eq_ix2 j⟩
  show codeB (iblk m c 0 t) (iblk m c 1 t) (ix2 r k) = codeW (V m c main_arg0) (V m c main_arg1) (((cfg0.win 7).blk t).view.emb (ix2 r k : S512x3584.Idx))
  rw [emb7]
  exact (code_apply (iblk m c 0 t) (iblk m c 1 t) r k).trans (congr (congrArg rowCode (ra_eq m c t r)) (congrFun (rn_eq m c t r) k))

theorem flushed4_eq (c : Dev nD) (t : Fin cfg0.N) :
    (dats m 0 c).flushed 4 t = ((cfg0.win 4).blk t).view.read (Elt Ideal) (qW (V m c main_arg0) (V m c main_arg1) (V m c main_arg2) (V m c main_arg3)) := by
  rw [Value.flushed4_A, out4]
  funext j
  obtain ⟨r, k, rfl⟩ : ∃ (r : Fin 512) (k : Fin 1792), j = (ix2 r k : S512x1792.Idx) := ⟨j 0, j 1, eq_ix2 j⟩
  show k0_pay2 (scaleB (iblk m c 0 t) (iblk m c 1 t)) (codeB (iblk m c 0 t) (iblk m c 1 t)) (X0_2 m c t) (X0_3 m c t) (ix2 r k)
    = qW (V m c main_arg0) (V m c main_arg1) (V m c main_arg2) (V m c main_arg3) (((cfg0.win 4).blk t).view.emb (ix2 r k : S512x1792.Idx))
  rw [emb4]
  refine (q_apply (iblk m c 0 t) (iblk m c 1 t) (X0_2 m c t) (X0_3 m c t) r k).trans ?_
  have e : col 0 21248 (by omega) (col 0 2304 (by omega) k) = col 0 21248 (by omega) k := Fin.ext (Nat.zero_add _)
  simp only [X2, X3, e]
  exact congrArg (fun a => rowDot a _ (fun i : Fin 3584 => V m c main_arg2 (ix2 i (col 0 21248 (by omega) k) : S3584x21248.Idx)) (V m c main_arg3 (ix2 0 (col 0 21248 (by omega) k) : S1x21248.Idx))) (ra_eq m c t r)
    |>.trans (congrArg (fun b => rowDot _ b (fun i : Fin 3584 => V m c main_arg2 (ix2 i (col 0 21248 (by omega) k) : S3584x21248.Idx)) (V m c main_arg3 (ix2 0 (col 0 21248 (by omega) k) : S1x21248.Idx))) (rn_eq m c t r))

theorem flushed5_eq (c : Dev nD) (t : Fin cfg0.N) :
    (dats m 0 c).flushed 5 t = ((cfg0.win 5).blk t).view.read (Elt Ideal) (kW (V m c main_arg0) (V m c main_arg1) (V m c main_arg2) (V m c main_arg3)) := by
  rw [Value.flushed5_A, out5]
  funext j
  obtain ⟨r, k, rfl⟩ : ∃ (r : Fin 512) (k : Fin 256), j = (ix2 r k : S512x256.Idx) := ⟨j 0, j 1, eq_ix2 j⟩
  show k0_pay3 (scaleB (iblk m c 0 t) (iblk m c 1 t)) (codeB (iblk m c 0 t) (iblk m c 1 t)) (X0_2 m c t) (X0_3 m c t) (ix2 r k)
    = kW (V m c main_arg0) (V m c main_arg1) (V m c main_arg2) (V m c main_arg3) (((cfg0.win 5).blk t).view.emb (ix2 r k : S512x256.Idx))
  rw [emb5]
  refine (k_apply (iblk m c 0 t) (iblk m c 1 t) (X0_2 m c t) (X0_3 m c t) r k).trans ?_
  have e : col 0 21248 (by omega) (col 1792 2304 (by omega) k) = col 1792 21248 (by omega) k := Fin.ext (Nat.zero_add _)
  simp only [X2, X3, e]
  exact congrArg (fun a => rowDot a _ (fun i : Fin 3584 => V m c main_arg2 (ix2 i (col 1792 21248 (by omega) k) : S3584x21248.Idx)) (V m c main_arg3 (ix2 0 (col 1792 21248 (by omega) k) : S1x21248.Idx))) (ra_eq m c t r)
    |>.trans (congrArg (fun b => rowDot _ b (fun i : Fin 3584 => V m c main_arg2 (ix2 i (col 1792 21248 (by omega) k) : S3584x21248.Idx)) (V m c main_arg3 (ix2 0 (col 1792 21248 (by omega) k) : S1x21248.Idx))) (rn_eq m c t r))

theorem flushed6_eq (c : Dev nD) (t : Fin cfg0.N) :
    (dats m 0 c).flushed 6 t = ((cfg0.win 6).blk t).view.read (Elt Ideal) (vW (V m c main_arg0) (V m c main_arg1) (V m c main_arg2) (V m c main_arg3)) := by
  rw [Value.flushed6_A, out6]
  funext j
  obtain ⟨r, k, rfl⟩ : ∃ (r : Fin 512) (k : Fin 256), j = (ix2 r k : S512x256.Idx) := ⟨j 0, j 1, eq_ix2 j⟩
  show k0_pay4 (scaleB (iblk m c 0 t) (iblk m c 1 t)) (codeB (iblk m c 0 t) (iblk m c 1 t)) (X0_2 m c t) (X0_3 m c t) (ix2 r k)
    = vW (V m c main_arg0) (V m c main_arg1) (V m c main_arg2) (V m c main_arg3) (((cfg0.win 6).blk t).view.emb (ix2 r k : S512x256.Idx))
  rw [emb6]
  refine (v_apply (iblk m c 0 t) (iblk m c 1 t) (X0_2 m c t) (X0_3 m c t) r k).trans ?_
  have e : col 0 21248 (by omega) (col 2048 2304 (by omega) k) = col 2048 21248 (by omega) k := Fin.ext (Nat.zero_add _)
  simp only [X2, X3, e]
  exact congrArg (fun a => rowDot a _ (fun i : Fin 3584 => V m c main_arg2 (ix2 i (col 2048 21248 (by omega) k) : S3584x21248.Idx)) (V m c main_arg3 (ix2 0 (col 2048 21248 (by omega) k) : S1x21248.Idx))) (ra_eq m c t r)
    |>.trans (congrArg (fun b => rowDot _ b (fun i : Fin 3584 => V m c main_arg2 (ix2 i (col 2048 21248 (by omega) k) : S3584x21248.Idx)) (V m c main_arg3 (ix2 0 (col 2048 21248 (by omega) k) : S1x21248.Idx))) (rn_eq m c t r))

/-! ## The run -/

/-- The run of the kernel with its five result arrays named, the arguments unchanged. -/
theorem run : θ_run defs (onTc (τ := τ) (main (F := Ideal))) ⟨m, fun _ => 0, ρ⟩ fun r => ∀ c : Dev nD,
      r.2.mem ((c : Thread nD τ).loc main_v0_0) = qW (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = kW (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = vW (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = codeW (m ((c : Thread nD τ).loc main_arg0)) (m ((c : Thread nD τ).loc main_arg1))
      ∧ r.2.mem ((c : Thread nD τ).loc main_v0_4) = scaleW (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run_blocks m ρ)
  obtain ⟨h4, h5, h6, h7, h8, ha⟩ := h c
  refine ⟨h4.trans (((dats m 0 c).arrAt_eq_of_cover 4 _ (fun t _ => flushed4_eq m c t) covered4).trans ?_),
    h5.trans (((dats m 0 c).arrAt_eq_of_cover 5 _ (fun t _ => flushed5_eq m c t) covered5).trans ?_),
    h6.trans (((dats m 0 c).arrAt_eq_of_cover 6 _ (fun t _ => flushed6_eq m c t) covered6).trans ?_),
    h7.trans (((dats m 0 c).arrAt_eq_of_cover 7 _ (fun t _ => flushed7_eq m c t) covered7).trans ?_),
    h8.trans (((dats m 0 c).arrAt_eq_of_cover 8 _ (fun t _ => flushed8_eq m c t) covered8).trans ?_), ha⟩
  · rw [V_main_arg0, V_main_arg1, V_main_arg2, V_main_arg3]
  · rw [V_main_arg0, V_main_arg1, V_main_arg2, V_main_arg3]
  · rw [V_main_arg0, V_main_arg1, V_main_arg2, V_main_arg3]
  · rw [V_main_arg0, V_main_arg1]
  · rw [V_main_arg0, V_main_arg1]

end Cert.NormQkvIdeal.Rows

/-! ## The reference -/

namespace Cert.NormQkvRefIdeal.Rows

open Cert.NormQkvRefIdeal Cert.NormQkvRefIdeal.Gen Idealize.ShloMosaic Idealize.ShloMosaic.ValueIdx

variable (x : Vec Ideal S4096x3584 .bf16) (g : Vec Ideal S1x3584 .bf16) (w : Vec Ideal S3584x21248 .fp8e4m3) (ws : Vec Ideal S1x21248 .f32)

theorem hz : (![0, 0] : Fin 2 → Nat) = fun _ => 0 := funext fun a => by fin_cases a <;> rfl

theorem pay11 : k0_pay11 x g w ws = k0_pay6 x g := by
  unfold k0_pay11
  simp only [View.ld_unit_zero (S := S4096x3584) hz, View.ld_unit_zero (S := S1x3584) hz]

theorem pay12 : k0_pay12 x g w ws = k0_pay7 x g := by
  unfold k0_pay12
  simp only [View.ld_unit_zero (S := S4096x3584) hz, View.ld_unit_zero (S := S1x3584) hz]

theorem pay13 : k0_pay13 x g w ws = k0_pay8 x g := by
  unfold k0_pay13
  simp only [View.ld_unit_zero (S := S4096x3584) hz, View.ld_unit_zero (S := S1x3584) hz]

theorem pay14 : k0_pay14 x g w ws = k0_pay9 x g := by
  unfold k0_pay14
  simp only [View.ld_unit_zero (S := S4096x3584) hz, View.ld_unit_zero (S := S1x3584) hz]

theorem pay15 : k0_pay15 x g w ws = k0_pay10 (F := Ideal) := rfl

theorem G8_eq : Value.G8 x g w ws = Cert.NormQkvIdeal.Rows.scaleW x g := by
  unfold Value.G8
  rw [pay13]
  funext j
  obtain ⟨r, k, rfl⟩ : ∃ (r : Fin 4096) (k : Fin 1), j = (ix2 r k : S4096x1.Idx) := ⟨j 0, j 1, eq_ix2 j⟩
  exact scale_apply x g r k

theorem G7_eq : Value.G7 x g w ws = Cert.NormQkvIdeal.Rows.codeW x g := by
  unfold Value.G7
  rw [pay11, pay12, pay14, pay15, ← codes]
  funext j
  obtain ⟨r, k, rfl⟩ : ∃ (r : Fin 4096) (k : Fin 3584), j = (ix2 r k : S4096x3584.Idx) := ⟨j 0, j 1, eq_ix2 j⟩
  exact code_apply x g r k

theorem G4_eq : Value.G4 x g w ws = Cert.NormQkvIdeal.Rows.qW x g w ws := by
  unfold Value.G4
  rw [pay11, pay12, pay13, pay14, pay15]
  funext j
  obtain ⟨r, k, rfl⟩ : ∃ (r : Fin 4096) (k : Fin 1792), j = (ix2 r k : S4096x1792.Idx) := ⟨j 0, j 1, eq_ix2 j⟩
  exact q_apply x g w ws r k

theorem G5_eq : Value.G5 x g w ws = Cert.NormQkvIdeal.Rows.kW x g w ws := by
  unfold Value.G5
  rw [pay11, pay12, pay13, pay14, pay15]
  funext j
  obtain ⟨r, k, rfl⟩ : ∃ (r : Fin 4096) (k : Fin 256), j = (ix2 r k : S4096x256.Idx) := ⟨j 0, j 1, eq_ix2 j⟩
  exact k_apply x g w ws r k

theorem G6_eq : Value.G6 x g w ws = Cert.NormQkvIdeal.Rows.vW x g w ws := by
  unfold Value.G6
  rw [pay11, pay12, pay13, pay14, pay15]
  funext j
  obtain ⟨r, k, rfl⟩ : ∃ (r : Fin 4096) (k : Fin 256), j = (ix2 r k : S4096x256.Idx) := ⟨j 0, j 1, eq_ix2 j⟩
  exact v_apply x g w ws r k

end Cert.NormQkvRefIdeal.Rows

/-! ## The claim -/

namespace Cert.Proof.NormQkv

open Idealize.ShloMosaic Idealize.ShloMosaic.TcCoe Idealize.SL.Sem

/-- The kernel and the reference end with the same five arrays. -/
theorem algebraic : Cert.algebraic_NormQkvIdeal_NormQkvRefIdeal := by
  intro m ρ m' ρ' _ hagree
  refine ⟨_, _, _, _, _, Cert.NormQkvIdeal.Rows.run m ρ, ?_⟩
  refine (θ_run Cert.NormQkvRefIdeal.defs _ _).mono (fun _ h c => ?_) (Cert.NormQkvRefIdeal.Value.run (F := Ideal) m' ρ')
  obtain ⟨h4, h5, h6, h7, h8, ha⟩ := h c
  obtain ⟨e0, e1, e2, e3⟩ := hagree c
  refine ⟨h4.trans ?_, h5.trans ?_, h6.trans ?_, h7.trans ?_, h8.trans ?_, ha⟩
  · rw [Cert.NormQkvRefIdeal.Rows.G4_eq, e0, e1, e2, e3]
  · rw [Cert.NormQkvRefIdeal.Rows.G5_eq, e0, e1, e2, e3]
  · rw [Cert.NormQkvRefIdeal.Rows.G6_eq, e0, e1, e2, e3]
  · rw [Cert.NormQkvRefIdeal.Rows.G7_eq, e0, e1]
  · rw [Cert.NormQkvRefIdeal.Rows.G8_eq, e0, e1]

end Cert.Proof.NormQkv

end
-- ==== Proof.GateUpBits.lean ====
/- The frame of the gate and up projection on machine numbers: every run ends, with its argument arrays as they were and
   every counter at zero. -/
module

public import proofs.«01_k».proof.Proof.Gen.GateUp.Frame
public import proofs.«01_k».proof.Proof.Gen.GateUp.Skeleton
public import Idealize.ShloMosaic.Lib.Claim

@[expose] public section

set_option maxRecDepth 16384

noncomputable section

namespace Cert.GateUp.Named

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10188000 in
/-- The body on any buffers: the inputs are handed back as they were, the results and the scratch at some contents. -/
theorem kernelRun0_A (c : Dev nD) (i : grid0.Coords) (arg1 : Memref sig .tc .vmem S4096x3584 .fp8e4m3) (harg1 : arg1.IsWhole) (arg2 : Memref sig .tc .vmem S4096x1 .f32) (harg2 : arg2.IsWhole) (arg3 : Memref sig .tc .vmem S3584x256 .fp8e4m3) (harg3 : arg3.IsWhole) (arg4 : Memref sig .tc .vmem S3584x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S4096x256 .bf16) (harg7 : arg7.IsWhole) (arg8 : Memref sig .tc .vmem S4096x128 .f32) (harg8 : arg8.IsWhole) (arg9 : Memref sig .tc .vmem S3584x512 .fp8e4m3) (harg9 : arg9.IsWhole)
    (x0 : Vec F S4096x3584 .fp8e4m3) (x1 : Vec F S4096x1 .f32) (x2 : Vec F S3584x256 .fp8e4m3) (x3 : Vec F S3584x256 .fp8e4m3) (x4 : Vec F S1x256 .f32) (x5 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9) K := by
    intro E K
    simp only [cc0_gate_up_eq_skeleton]; unfold cc0_gate_up_skel
    simp only [k0_part302_eq_skeleton, k0_part301_eq_skeleton, k0_part300_eq_skeleton, k0_part299_eq_skeleton, k0_part298_eq_skeleton, k0_part297_eq_skeleton, k0_part296_eq_skeleton, k0_part295_eq_skeleton, k0_part294_eq_skeleton, k0_part293_eq_skeleton, k0_part292_eq_skeleton, k0_part291_eq_skeleton, k0_part290_eq_skeleton, k0_part289_eq_skeleton, k0_part288_eq_skeleton, k0_part287_eq_skeleton, k0_part286_eq_skeleton, k0_part285_eq_skeleton, k0_part284_eq_skeleton, k0_part283_eq_skeleton, k0_part282_eq_skeleton, k0_part281_eq_skeleton, k0_part280_eq_skeleton, k0_part279_eq_skeleton, k0_part278_eq_skeleton, k0_part277_eq_skeleton, k0_part276_eq_skeleton, k0_part275_eq_skeleton, k0_part274_eq_skeleton, k0_part273_eq_skeleton, k0_part272_eq_skeleton, k0_part271_eq_skeleton, k0_part270_eq_skeleton, k0_part269_eq_skeleton, k0_part268_eq_skeleton, k0_part267_eq_skeleton, k0_part266_eq_skeleton, k0_part265_eq_skeleton, k0_part264_eq_skeleton, k0_part263_eq_skeleton, k0_part262_eq_skeleton, k0_part261_eq_skeleton, k0_part260_eq_skeleton, k0_part259_eq_skeleton, k0_part258_eq_skeleton, k0_part257_eq_skeleton, k0_part256_eq_skeleton, k0_part255_eq_skeleton, k0_part254_eq_skeleton, k0_part253_eq_skeleton, k0_part252_eq_skeleton, k0_part251_eq_skeleton, k0_part250_eq_skeleton, k0_part249_eq_skeleton, k0_part248_eq_skeleton, k0_part247_eq_skeleton, k0_part246_eq_skeleton, k0_part245_eq_skeleton, k0_part244_eq_skeleton, k0_part243_eq_skeleton, k0_part242_eq_skeleton, k0_part241_eq_skeleton, k0_part240_eq_skeleton, k0_part239_eq_skeleton, k0_part238_eq_skeleton, k0_part237_eq_skeleton, k0_part236_eq_skeleton, k0_part235_eq_skeleton, k0_part234_eq_skeleton, k0_part233_eq_skeleton, k0_part232_eq_skeleton, k0_part231_eq_skeleton, k0_part230_eq_skeleton, k0_part229_eq_skeleton, k0_part228_eq_skeleton, k0_part227_eq_skeleton, k0_part226_eq_skeleton, k0_part225_eq_skeleton, k0_part224_eq_skeleton, k0_part223_eq_skeleton, k0_part222_eq_skeleton, k0_part221_eq_skeleton, k0_part220_eq_skeleton, k0_part219_eq_skeleton, k0_part218_eq_skeleton, k0_part217_eq_skeleton, k0_part216_eq_skeleton, k0_part215_eq_skeleton, k0_part214_eq_skeleton, k0_part213_eq_skeleton, k0_part212_eq_skeleton, k0_part211_eq_skeleton, k0_part210_eq_skeleton, k0_part209_eq_skeleton, k0_part208_eq_skeleton, k0_part207_eq_skeleton, k0_part206_eq_skeleton, k0_part205_eq_skeleton, k0_part204_eq_skeleton, k0_part203_eq_skeleton, k0_part202_eq_skeleton, k0_part201_eq_skeleton, k0_part200_eq_skeleton, k0_part199_eq_skeleton, k0_part198_eq_skeleton, k0_part197_eq_skeleton, k0_part196_eq_skeleton, k0_part195_eq_skeleton, k0_part194_eq_skeleton, k0_part193_eq_skeleton, k0_part192_eq_skeleton, k0_part191_eq_skeleton, k0_part190_eq_skeleton, k0_part189_eq_skeleton, k0_part188_eq_skeleton, k0_part187_eq_skeleton, k0_part186_eq_skeleton, k0_part185_eq_skeleton, k0_part184_eq_skeleton, k0_part183_eq_skeleton, k0_part182_eq_skeleton, k0_part181_eq_skeleton, k0_part180_eq_skeleton, k0_part179_eq_skeleton, k0_part178_eq_skeleton, k0_part177_eq_skeleton, k0_part176_eq_skeleton, k0_part175_eq_skeleton, k0_part174_eq_skeleton, k0_part173_eq_skeleton, k0_part172_eq_skeleton, k0_part171_eq_skeleton, k0_part170_eq_skeleton, k0_part169_eq_skeleton, k0_part168_eq_skeleton, k0_part167_eq_skeleton, k0_part166_eq_skeleton, k0_part165_eq_skeleton, k0_part164_eq_skeleton, k0_part163_eq_skeleton, k0_part162_eq_skeleton, k0_part161_eq_skeleton, k0_part160_eq_skeleton, k0_part159_eq_skeleton, k0_part158_eq_skeleton, k0_part157_eq_skeleton, k0_part156_eq_skeleton, k0_part155_eq_skeleton, k0_part154_eq_skeleton, k0_part153_eq_skeleton, k0_part152_eq_skeleton, k0_part151_eq_skeleton, k0_part150_eq_skeleton, k0_part149_eq_skeleton, k0_part148_eq_skeleton, k0_part147_eq_skeleton, k0_part146_eq_skeleton, k0_part145_eq_skeleton, k0_part144_eq_skeleton, k0_part143_eq_skeleton, k0_part142_eq_skeleton, k0_part141_eq_skeleton, k0_part140_eq_skeleton, k0_part139_eq_skeleton, k0_part138_eq_skeleton, k0_part137_eq_skeleton, k0_part136_eq_skeleton, k0_part135_eq_skeleton, k0_part134_eq_skeleton, k0_part133_eq_skeleton, k0_part132_eq_skeleton, k0_part131_eq_skeleton, k0_part130_eq_skeleton, k0_part129_eq_skeleton, k0_part128_eq_skeleton, k0_part127_eq_skeleton, k0_part126_eq_skeleton, k0_part125_eq_skeleton, k0_part124_eq_skeleton, k0_part123_eq_skeleton, k0_part122_eq_skeleton, k0_part121_eq_skeleton, k0_part120_eq_skeleton, k0_part119_eq_skeleton, k0_part118_eq_skeleton, k0_part117_eq_skeleton, k0_part116_eq_skeleton, k0_part115_eq_skeleton, k0_part114_eq_skeleton, k0_part113_eq_skeleton, k0_part112_eq_skeleton, k0_part111_eq_skeleton, k0_part110_eq_skeleton, k0_part109_eq_skeleton, k0_part108_eq_skeleton, k0_part107_eq_skeleton, k0_part106_eq_skeleton, k0_part105_eq_skeleton, k0_part104_eq_skeleton, k0_part103_eq_skeleton, k0_part102_eq_skeleton, k0_part101_eq_skeleton, k0_part100_eq_skeleton, k0_part99_eq_skeleton, k0_part98_eq_skeleton, k0_part97_eq_skeleton, k0_part96_eq_skeleton, k0_part95_eq_skeleton, k0_part94_eq_skeleton, k0_part93_eq_skeleton, k0_part92_eq_skeleton, k0_part91_eq_skeleton, k0_part90_eq_skeleton, k0_part89_eq_skeleton, k0_part88_eq_skeleton, k0_part87_eq_skeleton, k0_part86_eq_skeleton, k0_part85_eq_skeleton, k0_part84_eq_skeleton, k0_part83_eq_skeleton, k0_part82_eq_skeleton, k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

/-- Each window's current staging buffer at a point, and that it is whole. -/
abbrev ms0_0 (t : Fin cfg0.N) : Memref sig .tc .vmem S4096x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3584x512 .fp8e4m3 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The argument arrays, from a run whose inputs are unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      (Pipeline.RDat.FramePost.arr_in h c 5 rfl).trans ((hA c 5).trans (V_main_arg3 m c))⟩) h

/-! ## The pipeline's proof data -/

/-- The two results: nothing is said of what they hold. -/
def forgets0 : Fin 8 → Bool := fun w => w.val == 6 || w.val == 7

/-- The proof data: the arrays as launched; after a point each input's block; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The arrays are as launched. -/
theorem A_eq (c : Dev nD) (w : Fin cfg0.W) : (dats m 0 c).A w = V m c (Pipeline.arrRef spec0 w) := by
  dsimp only [dats]

/-- After a point each input's buffer holds its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Before a point each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What a point finds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- What a point leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at a point's buffers. -/
theorem defs₀_row (t : Fin cfg0.N) :
    defs₀ (F := F) .tc cfg0.body (cfg0.bodyArgs t (cfg0.slots t)) = bodyAt0 t := by
  unfold defs₀; rw [Defs.onTc_tc]

/-- Every point meets its obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run: each argument array unchanged, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- Every run leaves the argument arrays as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.GateUp.Named

end
-- ==== Proof.GateUpRows.lean ====
/- The gate and up projection: what kernel and reference compute, entry by entry, and the reference read at one entry. -/
module

public import proofs.«01_k».proof.Defs
public import proofs.«01_k».proof.Proof.Rows
public import proofs.«01_k».proof.Proof.Gen.GateUpRefIdeal.Value

@[expose] public section

set_option maxRecDepth 16384

noncomputable section

namespace Cert.Rows

open Idealize.ShloMosaic Idealize.ShloMosaic.ValueIdx
open scoped BigOperators

/-! ## The entries -/

/-- The gate's activation. -/
def silu (x : EReal) : EReal := x * Ideal.logistic x

/-- A hidden entry from the two products of a row and its two columns, the row's scale and the scales of the columns. -/
def hid (dg du s gs us : EReal) : EReal := silu ((dg * s) * gs) * ((du * s) * us)

/-- The size of a number. -/
def size (x : EReal) : EReal := max x (-x)

section Arrays
variable (x : (⟨2, ![4096, 3584]⟩ : Shape).Idx → EReal) (xs : (⟨2, ![4096, 1]⟩ : Shape).Idx → EReal)
  (w : (⟨2, ![3584, 21248]⟩ : Shape).Idx → EReal) (ws : (⟨2, ![1, 21248]⟩ : Shape).Idx → EReal)

/-- The column of the weights that holds the gate of hidden column `f`. -/
def gcol (f : Fin 9472) : Fin 21248 := ⟨2304 + 2 * f.val, by have := f.isLt; omega⟩

/-- The column of the weights that holds the up projection of hidden column `f`. -/
def ucol (f : Fin 9472) : Fin 21248 := ⟨2304 + (2 * f.val + 1), by have := f.isLt; omega⟩

/-- The product of row `i` and column `n`. -/
def prod (i : Fin 4096) (n : Fin 21248) : EReal := ∑ k : Fin 3584, x (ix2 i k) * w (ix2 k n)

/-- A hidden entry. -/
def hiddenAt (i : Fin 4096) (f : Fin 9472) : EReal :=
  hid (prod x w i (gcol f)) (prod x w i (ucol f)) (xs (ix2 i 0)) (ws (ix2 0 (gcol f))) (ws (ix2 0 (ucol f)))

/-- The largest of the sizes of the hidden entries of row `i` in the columns `128 g + l`. -/
def hiddenMax (i : Fin 4096) (l : Fin 128) : EReal :=
  Finset.univ.fold max (Ideal.ofBits .f32 0xFF800000#32) fun g : Fin 74 =>
    size (hiddenAt x xs w ws i ⟨g.val * 128 + l.val, by have := g.isLt; have := l.isLt; omega⟩)

end Arrays

/-! ## Vector operations at an index -/

theorem silu_apply {s : Shape} (a b : FVec Ideal s .f32) (j : s.Idx) : mulf (F := Ideal) (mulf a (logistic a)) b j = silu (a j) * (b j : EReal) := rfl

theorem scaled_apply {s : Shape} (a b c : FVec Ideal s .f32) (j : s.Idx) : mulf (F := Ideal) (mulf a b) c j = ((a j : EReal) * (b j : EReal)) * (c j : EReal) := rfl

theorem size_apply {s : Shape} (a : FVec Ideal s .f32) (j : s.Idx) : absf (F := Ideal) a j = size (a j) := rfl

end Cert.Rows

namespace Cert.GateUpRefIdeal.Rows

open Cert.GateUpRefIdeal Cert.GateUpRefIdeal.Gen Idealize.ShloMosaic Idealize.ShloMosaic.ValueIdx Cert.Rows
open scoped BigOperators

variable (x : FVec Ideal S4096x3584 .fp8e4m3) (xs : FVec Ideal S4096x1 .f32) (w : FVec Ideal S3584x21248 .fp8e4m3) (ws : FVec Ideal S1x21248 .f32)

/-- The projection, before it is taken apart. -/
def proj : FVec Ideal S4096x18944 .f32 :=
  mulf (mulf (FloatOps.matmul (F := Ideal) (φ₁ := .fp8e4m3) (φ₂ := .fp8e4m3) dot_S4096x3584_S3584x18944_S4096x18944_1_0_0_1_n_n none x
      (extractStridedSlice S3584x18944 ![0, 2304] w slices_S3584x21248_o0_2304_S3584x18944) (constant S4096x18944 .f32 0x00000000#32))
    (broadcastTo S4096x18944 xs broadcasts_S4096x1_S4096x18944))
    (broadcastTo S4096x18944 (extractStridedSlice S1x18944 ![0, 2304] ws slices_S1x21248_o0_2304_S1x18944) broadcasts_S1x18944_S4096x18944)

/-- The gates. -/
def gate : FVec Ideal S4096x9472 .f32 :=
  shapeCast S4096x9472 (extractStridedSlice S4096x9472x1 ![0, 0, 0] (shapeCast S4096x9472x2 (proj x xs w ws) shapeCasts_S4096x18944_S4096x9472x2) slices_S4096x9472x2_o0_0_0_S4096x9472x1) shapeCasts_S4096x9472x1_S4096x9472

/-- The up projection. -/
def up : FVec Ideal S4096x9472 .f32 :=
  shapeCast S4096x9472 (extractStridedSlice S4096x9472x1 ![0, 0, 1] (shapeCast S4096x9472x2 (proj x xs w ws) shapeCasts_S4096x18944_S4096x9472x2) slices_S4096x9472x2_o0_0_1_S4096x9472x1) shapeCasts_S4096x9472x1_S4096x9472

theorem proj_apply (i : Fin 4096) (n : Fin 18944) (k : Fin 21248) (hk : k.val = 2304 + n.val) :
    proj x xs w ws (ix2 i n) = ((prod x w i k * xs (ix2 i 0)) * ws (ix2 0 k) : EReal) := by
  unfold proj
  rw [scaled_apply, bcol_apply, brow_apply, slice2_axis1_apply _ _ _ _ n k hk,
    show dot_S4096x3584_S3584x18944_S4096x18944_1_0_0_1_n_n = DotDims.plain 4096 3584 18944 from rfl]
  erw [dot_apply]
  unfold prod
  congr 2
  refine Finset.sum_congr rfl fun j _ => ?_
  rw [slice2_axis1_apply _ _ _ _ n k hk]

/-- One of the two halves of the projection, the pairs of columns taken apart. -/
theorem pair_apply (v : FVec Ideal S4096x18944 .f32) (o : Nat) (ho : o < 2) (h : S4096x9472x2.Slices ![0, 0, o] S4096x9472x1) (i : Fin 4096) (f : Fin 9472) :
    shapeCast S4096x9472 (extractStridedSlice S4096x9472x1 ![0, 0, o] (shapeCast S4096x9472x2 v shapeCasts_S4096x18944_S4096x9472x2) h) shapeCasts_S4096x9472x1_S4096x9472 (ix2 i f)
      = v (ix2 i ⟨2 * f.val + o, by have := f.isLt; omega⟩) := by
  rw [shapeCast_apply _ shapeCasts_S4096x9472x1_S4096x9472 (ix2 i f) (ix3 i f (0 : Fin 1)) (by
      rw [Shape.rowMajor_val_two, Shape.rowMajor_val_three]
      show (i.val * 9472 + f.val) * 1 + 0 = i.val * 9472 + f.val
      omega),
    extractStridedSlice_apply _ _ h (ix3 i f (0 : Fin 1)) (ix3 i f (⟨o, ho⟩ : Fin 2)) (fun a => by
      match a with
      | ⟨0, _⟩ => show i.val = 0 + i.val; omega
      | ⟨1, _⟩ => show f.val = 0 + f.val; omega
      | ⟨2, _⟩ => show o = o + 0; omega),
    shapeCast_apply _ shapeCasts_S4096x18944_S4096x9472x2 (ix3 i f (⟨o, ho⟩ : Fin 2)) (ix2 i ⟨2 * f.val + o, by have := f.isLt; omega⟩) (by
      rw [Shape.rowMajor_val_two, Shape.rowMajor_val_three]
      show i.val * 18944 + (2 * f.val + o) = (i.val * 9472 + f.val) * 2 + o
      omega)]

theorem gate_apply (i : Fin 4096) (f : Fin 9472) : gate x xs w ws (ix2 i f) = ((prod x w i (gcol f) * xs (ix2 i 0)) * ws (ix2 0 (gcol f)) : EReal) := by
  unfold gate
  rw [pair_apply _ 0 (by omega)]
  exact proj_apply x xs w ws i _ (gcol f) rfl

theorem up_apply (i : Fin 4096) (f : Fin 9472) : up x xs w ws (ix2 i f) = ((prod x w i (ucol f) * xs (ix2 i 0)) * ws (ix2 0 (ucol f)) : EReal) := by
  unfold up
  rw [pair_apply _ 1 (by omega)]
  exact proj_apply x xs w ws i _ (ucol f) rfl

theorem pay1_eq : k0_pay1 (F := Ideal) x w xs ws = mulf (mulf (gate x xs w ws) (logistic (gate x xs w ws))) (up x xs w ws) := rfl

/-- The reference's hidden entries. -/
theorem pay1_apply (i : Fin 4096) (f : Fin 9472) : k0_pay1 (F := Ideal) x w xs ws (ix2 i f) = hiddenAt x xs w ws i f := by
  rw [pay1_eq, silu_apply, gate_apply, up_apply]
  unfold hiddenAt hid
  rfl

theorem pay2_apply (i : Fin 4096) (f : Fin 9472) : k0_pay2 (F := Ideal) x w xs ws (ix2 i f) = hiddenAt x xs w ws i f :=
  (show k0_pay2 (F := Ideal) x w xs ws (ix2 i f) = k0_pay1 (F := Ideal) x w xs ws (ix2 i f) from rfl).trans (pay1_apply x xs w ws i f)

/-- The largest entries over the groups of 128 columns. -/
theorem groups_apply (v : FVec Ideal S4096x9472 .f32) (acc : BitVec 32) (h : S4096x74x128.Reduces [1] S4096x128) (hk hφ) (hc : S4096x9472.ShapeCasts S4096x74x128)
    (i : Fin 4096) (l : Fin 128) :
    multiReduction (F := Ideal) .maximumf [1] S4096x128 (shapeCast S4096x74x128 v hc) acc h hk hφ (ix2 i l)
      = Finset.univ.fold max (Ideal.ofBits .f32 acc) (fun g : Fin 74 => v (ix2 i ⟨g.val * 128 + l.val, by have := g.isLt; have := l.isLt; omega⟩)) := by
  rw [Ideal.multiReduction_maximumf_single]
  refine congrArg (Finset.fold max _ · Finset.univ) (funext fun (g : Fin 74) => ?_)
  show shapeCast S4096x74x128 v hc (h.lift (ix2 i l) g) = _
  rw [show h.lift (ix2 i l) g = (ix3 i g l : S4096x74x128.Idx) from funext fun a => by
    match a with
    | ⟨0, _⟩ => rfl
    | ⟨1, _⟩ => rfl
    | ⟨2, _⟩ => rfl]
  refine shapeCast_apply _ hc _ _ ?_
  rw [Shape.rowMajor_val_two, Shape.rowMajor_val_three]
  show i.val * 9472 + (g.val * 128 + l.val) = (i.val * 74 + g.val) * 128 + l.val
  omega

/-- The reference's largest absolute values. -/
theorem pay3_apply (i : Fin 4096) (l : Fin 128) : k0_pay3 (F := Ideal) x w xs ws (ix2 i l) = hiddenMax x xs w ws i l := by
  unfold k0_pay3 hiddenMax
  refine (groups_apply _ _ _ _ _ _ i l).trans ?_
  refine congrArg (Finset.fold max _ · Finset.univ) (funext fun g => ?_)
  rw [size_apply, pay1_apply]

end Cert.GateUpRefIdeal.Rows

end
-- ==== Proof.GateUpRun.lean ====
/- The body of the gate and up projection, run: on any buffers it ends, with its inputs as they were and its two results
   overwritten by stores that the run finds. -/
module

public import proofs.«01_k».proof.Proof.Gen.GateUpIdeal.Frame
public import proofs.«01_k».proof.Proof.Gen.GateUpIdeal.Skeleton

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10188000 in
/-- The stores into the two results, and that the body makes them. -/
noncomputable def kernelRun0_A (c : Dev nD) (i : grid0.Coords) (arg1 : Memref sig .tc .vmem S4096x3584 .fp8e4m3) (harg1 : arg1.IsWhole) (arg2 : Memref sig .tc .vmem S4096x1 .f32) (harg2 : arg2.IsWhole) (arg3 : Memref sig .tc .vmem S3584x256 .fp8e4m3) (harg3 : arg3.IsWhole) (arg4 : Memref sig .tc .vmem S3584x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S4096x256 .bf16) (harg7 : arg7.IsWhole) (arg8 : Memref sig .tc .vmem S4096x128 .f32) (harg8 : arg8.IsWhole) (arg9 : Memref sig .tc .vmem S3584x512 .fp8e4m3) (harg9 : arg9.IsWhole)
    (x0 : Vec F S4096x3584 .fp8e4m3) (x1 : Vec F S4096x1 .f32) (x2 : Vec F S3584x256 .fp8e4m3) (x3 : Vec F S3584x256 .fp8e4m3) (x4 : Vec F S1x256 .f32) (x5 : Vec F S1x256 .f32) (x7 : Vec F S4096x128 .f32) :
    Σ' (L6 : List (View.Piece (Elt F) S4096x256 .bf16)), { L7 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9) K } := by
  refine ⟨?_, ?_, fun E K => ?run⟩
  case run =>
    simp only [cc0_gate_up_eq_skeleton]; unfold cc0_gate_up_skel
    simp only [k0_part302_eq_skeleton, k0_part301_eq_skeleton, k0_part300_eq_skeleton, k0_part299_eq_skeleton, k0_part298_eq_skeleton, k0_part297_eq_skeleton, k0_part296_eq_skeleton, k0_part295_eq_skeleton, k0_part294_eq_skeleton, k0_part293_eq_skeleton, k0_part292_eq_skeleton, k0_part291_eq_skeleton, k0_part290_eq_skeleton, k0_part289_eq_skeleton, k0_part288_eq_skeleton, k0_part287_eq_skeleton, k0_part286_eq_skeleton, k0_part285_eq_skeleton, k0_part284_eq_skeleton, k0_part283_eq_skeleton, k0_part282_eq_skeleton, k0_part281_eq_skeleton, k0_part280_eq_skeleton, k0_part279_eq_skeleton, k0_part278_eq_skeleton, k0_part277_eq_skeleton, k0_part276_eq_skeleton, k0_part275_eq_skeleton, k0_part274_eq_skeleton, k0_part273_eq_skeleton, k0_part272_eq_skeleton, k0_part271_eq_skeleton, k0_part270_eq_skeleton, k0_part269_eq_skeleton, k0_part268_eq_skeleton, k0_part267_eq_skeleton, k0_part266_eq_skeleton, k0_part265_eq_skeleton, k0_part264_eq_skeleton, k0_part263_eq_skeleton, k0_part262_eq_skeleton, k0_part261_eq_skeleton, k0_part260_eq_skeleton, k0_part259_eq_skeleton, k0_part258_eq_skeleton, k0_part257_eq_skeleton, k0_part256_eq_skeleton, k0_part255_eq_skeleton, k0_part254_eq_skeleton, k0_part253_eq_skeleton, k0_part252_eq_skeleton, k0_part251_eq_skeleton, k0_part250_eq_skeleton, k0_part249_eq_skeleton, k0_part248_eq_skeleton, k0_part247_eq_skeleton, k0_part246_eq_skeleton, k0_part245_eq_skeleton, k0_part244_eq_skeleton, k0_part243_eq_skeleton, k0_part242_eq_skeleton, k0_part241_eq_skeleton, k0_part240_eq_skeleton, k0_part239_eq_skeleton, k0_part238_eq_skeleton, k0_part237_eq_skeleton, k0_part236_eq_skeleton, k0_part235_eq_skeleton, k0_part234_eq_skeleton, k0_part233_eq_skeleton, k0_part232_eq_skeleton, k0_part231_eq_skeleton, k0_part230_eq_skeleton, k0_part229_eq_skeleton, k0_part228_eq_skeleton, k0_part227_eq_skeleton, k0_part226_eq_skeleton, k0_part225_eq_skeleton, k0_part224_eq_skeleton, k0_part223_eq_skeleton, k0_part222_eq_skeleton, k0_part221_eq_skeleton, k0_part220_eq_skeleton, k0_part219_eq_skeleton, k0_part218_eq_skeleton, k0_part217_eq_skeleton, k0_part216_eq_skeleton, k0_part215_eq_skeleton, k0_part214_eq_skeleton, k0_part213_eq_skeleton, k0_part212_eq_skeleton, k0_part211_eq_skeleton, k0_part210_eq_skeleton, k0_part209_eq_skeleton, k0_part208_eq_skeleton, k0_part207_eq_skeleton, k0_part206_eq_skeleton, k0_part205_eq_skeleton, k0_part204_eq_skeleton, k0_part203_eq_skeleton, k0_part202_eq_skeleton, k0_part201_eq_skeleton, k0_part200_eq_skeleton, k0_part199_eq_skeleton, k0_part198_eq_skeleton, k0_part197_eq_skeleton, k0_part196_eq_skeleton, k0_part195_eq_skeleton, k0_part194_eq_skeleton, k0_part193_eq_skeleton, k0_part192_eq_skeleton, k0_part191_eq_skeleton, k0_part190_eq_skeleton, k0_part189_eq_skeleton, k0_part188_eq_skeleton, k0_part187_eq_skeleton, k0_part186_eq_skeleton, k0_part185_eq_skeleton, k0_part184_eq_skeleton, k0_part183_eq_skeleton, k0_part182_eq_skeleton, k0_part181_eq_skeleton, k0_part180_eq_skeleton, k0_part179_eq_skeleton, k0_part178_eq_skeleton, k0_part177_eq_skeleton, k0_part176_eq_skeleton, k0_part175_eq_skeleton, k0_part174_eq_skeleton, k0_part173_eq_skeleton, k0_part172_eq_skeleton, k0_part171_eq_skeleton, k0_part170_eq_skeleton, k0_part169_eq_skeleton, k0_part168_eq_skeleton, k0_part167_eq_skeleton, k0_part166_eq_skeleton, k0_part165_eq_skeleton, k0_part164_eq_skeleton, k0_part163_eq_skeleton, k0_part162_eq_skeleton, k0_part161_eq_skeleton, k0_part160_eq_skeleton, k0_part159_eq_skeleton, k0_part158_eq_skeleton, k0_part157_eq_skeleton, k0_part156_eq_skeleton, k0_part155_eq_skeleton, k0_part154_eq_skeleton, k0_part153_eq_skeleton, k0_part152_eq_skeleton, k0_part151_eq_skeleton, k0_part150_eq_skeleton, k0_part149_eq_skeleton, k0_part148_eq_skeleton, k0_part147_eq_skeleton, k0_part146_eq_skeleton, k0_part145_eq_skeleton, k0_part144_eq_skeleton, k0_part143_eq_skeleton, k0_part142_eq_skeleton, k0_part141_eq_skeleton, k0_part140_eq_skeleton, k0_part139_eq_skeleton, k0_part138_eq_skeleton, k0_part137_eq_skeleton, k0_part136_eq_skeleton, k0_part135_eq_skeleton, k0_part134_eq_skeleton, k0_part133_eq_skeleton, k0_part132_eq_skeleton, k0_part131_eq_skeleton, k0_part130_eq_skeleton, k0_part129_eq_skeleton, k0_part128_eq_skeleton, k0_part127_eq_skeleton, k0_part126_eq_skeleton, k0_part125_eq_skeleton, k0_part124_eq_skeleton, k0_part123_eq_skeleton, k0_part122_eq_skeleton, k0_part121_eq_skeleton, k0_part120_eq_skeleton, k0_part119_eq_skeleton, k0_part118_eq_skeleton, k0_part117_eq_skeleton, k0_part116_eq_skeleton, k0_part115_eq_skeleton, k0_part114_eq_skeleton, k0_part113_eq_skeleton, k0_part112_eq_skeleton, k0_part111_eq_skeleton, k0_part110_eq_skeleton, k0_part109_eq_skeleton, k0_part108_eq_skeleton, k0_part107_eq_skeleton, k0_part106_eq_skeleton, k0_part105_eq_skeleton, k0_part104_eq_skeleton, k0_part103_eq_skeleton, k0_part102_eq_skeleton, k0_part101_eq_skeleton, k0_part100_eq_skeleton, k0_part99_eq_skeleton, k0_part98_eq_skeleton, k0_part97_eq_skeleton, k0_part96_eq_skeleton, k0_part95_eq_skeleton, k0_part94_eq_skeleton, k0_part93_eq_skeleton, k0_part92_eq_skeleton, k0_part91_eq_skeleton, k0_part90_eq_skeleton, k0_part89_eq_skeleton, k0_part88_eq_skeleton, k0_part87_eq_skeleton, k0_part86_eq_skeleton, k0_part85_eq_skeleton, k0_part84_eq_skeleton, k0_part83_eq_skeleton, k0_part82_eq_skeleton, k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _, _; isplitr; swap; · iexact HS0
    ipureintro; rfl

end Cert.GateUpIdeal.Gen

end
-- ==== Proof.GateUpLanes.lean ====
/- The even and the odd lanes of two registers side by side, as the kernel takes them (a gather within each register, a
   choice between the two, and a rotation by half a register), read at one lane. -/
module

public import Idealize.ShloMosaic.Lib.ValueIdx
public import Idealize.ShloMosaic.Lib.ValueLayout
public import Idealize.ShloMosaic.Lib.KernelVsHost
public import Idealize.ShloMosaic.Lib.Pipeline.Value

@[expose] public section

set_option maxRecDepth 16384

noncomputable section

namespace Cert.Lanes

open Idealize.ShloMosaic Idealize.ShloMosaic.ValueIdx

section Lanes
variable {M : Nat} (hi : (⟨2, ![M, 128]⟩ : Shape).Iotas .tc 32 [1])
  (h1 : (⟨2, ![M, 128]⟩ : Shape).ShapeCasts ⟨3, ![M, 128, 1]⟩) (h2 : (⟨3, ![M, 128, 1]⟩ : Shape).ShapeCasts ⟨2, ![M, 128]⟩)
  (hr : (⟨2, ![M, 128]⟩ : Shape).Rotates 1 none)

/-- The number of the lane. -/
def lane : IVec ⟨2, ![M, 128]⟩ 32 := iota .tc ⟨2, ![M, 128]⟩ 32 [1] hi

/-- The lower half of the lanes. -/
def low : IVec ⟨2, ![M, 128]⟩ 1 := cmpi .slt (lane hi) (broadcast _ 64#32)

/-- From which lane of the first register a lane is taken: even lanes in the lower half, odd ones in the upper. -/
def fromE : IVec ⟨2, ![M, 128]⟩ 32 :=
  select (low hi) (muli (broadcast _ 2#32) (lane hi)) (addi (muli (broadcast _ 2#32) (subi (lane hi) (broadcast _ 64#32))) (broadcast _ 1#32))

/-- From which lane of the second register: odd lanes in the lower half, even ones in the upper. -/
def fromO : IVec ⟨2, ![M, 128]⟩ 32 :=
  select (low hi) (addi (muli (broadcast _ 2#32) (lane hi)) (broadcast _ 1#32)) (muli (broadcast _ 2#32) (subi (lane hi) (broadcast _ 64#32)))

/-- A negative lane counted from the end. -/
def wrap (g : IVec ⟨2, ![M, 128]⟩ 32) : IVec ⟨2, ![M, 128]⟩ 32 :=
  shapeCast ⟨2, ![M, 128]⟩ (shapeCast ⟨3, ![M, 128, 1]⟩ (select (cmpi .slt g (broadcast _ 0#32)) (addi g (broadcast _ 128#32)) g) h1) h2

/-- The even lanes of `a`, then the even lanes of `b`. -/
def evens {α : Type} (a b : (⟨2, ![M, 128]⟩ : Shape).Idx → α) : (⟨2, ![M, 128]⟩ : Shape).Idx → α :=
  select (low hi) (dynamicGather 1 a (wrap h1 h2 (fromE hi))) (dynamicGather 1 b (wrap h1 h2 (fromO hi)))

/-- The odd lanes of `a`, then the odd lanes of `b`. -/
def odds {α : Type} (a b : (⟨2, ![M, 128]⟩ : Shape).Idx → α) : (⟨2, ![M, 128]⟩ : Shape).Idx → α :=
  dynamicRotate 1 64#32 none (select (low hi) (dynamicGather 1 b (wrap h1 h2 (fromO hi))) (dynamicGather 1 a (wrap h1 h2 (fromE hi)))) hr

/-- The lane of the first register, as a word. -/
def wordE (l : BitVec 32) : BitVec 32 :=
  Scalar.select (Scalar.cmpi .slt l 64#32) (2#32 * l) (2#32 * (l - 64#32) + 1#32)

/-- The lane of the second register, as a word. -/
def wordO (l : BitVec 32) : BitVec 32 :=
  Scalar.select (Scalar.cmpi .slt l 64#32) (2#32 * l + 1#32) (2#32 * (l - 64#32))

/-- A negative word counted from the end. -/
def wordW (g : BitVec 32) : BitVec 32 := Scalar.select (Scalar.cmpi .slt g 0#32) (g + 128#32) g

theorem lane_apply (r : Fin M) (l : Fin 128) : lane hi (ix2 r l) = BitVec.ofNat 32 l.val := iota_single_apply .tc _ 32 1 hi (ix2 r l)

theorem wrap_apply (g : IVec ⟨2, ![M, 128]⟩ 32) (r : Fin M) (l : Fin 128) : wrap h1 h2 g (ix2 r l) = wordW (g (ix2 r l)) := by
  unfold wrap
  rw [shapeCast_apply _ h2 (ix2 r l) (ix3 r l (0 : Fin 1)) (by
      rw [Shape.rowMajor_val_two, Shape.rowMajor_val_three]
      show (r.val * 128 + l.val) * 1 + 0 = r.val * 128 + l.val
      omega),
    shapeCast_apply _ h1 (ix3 r l (0 : Fin 1)) (ix2 r l) (by
      rw [Shape.rowMajor_val_two, Shape.rowMajor_val_three]
      show r.val * 128 + l.val = (r.val * 128 + l.val) * 1 + 0
      omega)]
  rfl

theorem low_apply (r : Fin M) (l : Fin 128) : low hi (ix2 r l) = Scalar.cmpi .slt (BitVec.ofNat 32 l.val) 64#32 := by
  rw [← lane_apply hi r l]; rfl

theorem fromE_apply (r : Fin M) (l : Fin 128) : fromE hi (ix2 r l) = wordE (BitVec.ofNat 32 l.val) := by
  rw [← lane_apply hi r l]; rfl

theorem fromO_apply (r : Fin M) (l : Fin 128) : fromO hi (ix2 r l) = wordO (BitVec.ofNat 32 l.val) := by
  rw [← lane_apply hi r l]; rfl

theorem wordE_val : ∀ l : Fin 128, (wordW (wordE (BitVec.ofNat 32 l.val))).toNat % 128 = if l.val < 64 then 2 * l.val else 2 * (l.val - 64) + 1 := by
  decide +kernel

theorem wordO_val : ∀ l : Fin 128, (wordW (wordO (BitVec.ofNat 32 l.val))).toNat % 128 = if l.val < 64 then 2 * l.val + 1 else 2 * (l.val - 64) := by
  decide +kernel

theorem low_val : ∀ l : Fin 128, Scalar.cmpi .slt (BitVec.ofNat 32 l.val) 64#32 = if l.val < 64 then 1#1 else 0#1 := by
  decide +kernel

variable {α : Type}

theorem gather_apply (a : (⟨2, ![M, 128]⟩ : Shape).Idx → α) (g : IVec ⟨2, ![M, 128]⟩ 32) (r : Fin M) (l : Fin 128) (k : Nat) (hk : k < 128)
    (h : (g (ix2 r l)).toNat % 128 = k) : dynamicGather 1 a g (ix2 r l) = a (ix2 r ⟨k, hk⟩) := by
  subst h
  unfold dynamicGather
  exact congrArg a (Shape.idx_ext₂ rfl rfl)

/-- The even lanes of the two registers. -/
theorem evens_apply (a b : (⟨2, ![M, 128]⟩ : Shape).Idx → α) (r : Fin M) (l : Fin 128) :
    evens hi h1 h2 a b (ix2 r l)
      = if h : l.val < 64 then a (ix2 r ⟨2 * l.val, by omega⟩) else b (ix2 r ⟨2 * (l.val - 64), by have := l.isLt; omega⟩) := by
  have hl := l.isLt
  unfold evens
  rw [show ∀ (c : IVec ⟨2, ![M, 128]⟩ 1) (x y : (⟨2, ![M, 128]⟩ : Shape).Idx → α) j, select c x y j = Scalar.select (c j) (x j) (y j) from fun _ _ _ _ => rfl,
    low_apply, low_val]
  by_cases h : l.val < 64
  · rw [if_pos h, dif_pos h]
    exact gather_apply a _ r l (2 * l.val) (by omega) (by rw [wrap_apply, fromE_apply, wordE_val, if_pos h])
  · rw [if_neg h, dif_neg h]
    exact gather_apply b _ r l (2 * (l.val - 64)) (by omega) (by rw [wrap_apply, fromO_apply, wordO_val, if_neg h])

/-- The odd lanes of the two registers. -/
theorem odds_apply (a b : (⟨2, ![M, 128]⟩ : Shape).Idx → α) (r : Fin M) (l : Fin 128) :
    odds hi h1 h2 hr a b (ix2 r l)
      = if h : l.val < 64 then a (ix2 r ⟨2 * l.val + 1, by omega⟩) else b (ix2 r ⟨2 * (l.val - 64) + 1, by have := l.isLt; omega⟩) := by
  have hl := l.isLt
  unfold odds
  rw [dynamicRotate_apply 1 64#32 _ hr (ix2 r l) (ix2 r ⟨(l.val + 128 - 64) % 128, Nat.mod_lt _ (by omega)⟩) (fun b => by
    match b with
    | ⟨0, _⟩ => rfl
    | ⟨1, _⟩ => rfl)]
  rw [show ∀ (c : IVec ⟨2, ![M, 128]⟩ 1) (x y : (⟨2, ![M, 128]⟩ : Shape).Idx → α) j, select c x y j = Scalar.select (c j) (x j) (y j) from fun _ _ _ _ => rfl,
    low_apply, low_val]
  by_cases h : l.val < 64
  · have e : ¬ (l.val + 128 - 64) % 128 < 64 := by omega
    rw [if_neg e, dif_pos h]
    exact gather_apply a _ r _ (2 * l.val + 1) (by omega) (by rw [wrap_apply, fromE_apply, wordE_val, if_neg e]; show 2 * ((l.val + 128 - 64) % 128 - 64) + 1 = _; omega)
  · have e : (l.val + 128 - 64) % 128 < 64 := by omega
    rw [if_pos e, dif_neg h]
    exact gather_apply b _ r _ (2 * (l.val - 64) + 1) (by omega) (by rw [wrap_apply, fromO_apply, wordO_val, if_pos e]; show 2 * ((l.val + 128 - 64) % 128) + 1 = _; omega)

end Lanes

end Cert.Lanes

end
-- ==== Proof.GateUpTiles.lean ====
/- The columns of a block of weights, the gate's and the up projection's interleaved, taken apart: what the kernel's
   stores into its scratch array are, row group by row group. -/
module

public import proofs.«01_k».proof.Proof.GateUpRun
public import proofs.«01_k».proof.Proof.GateUpLanes

@[expose] public section

set_option maxRecDepth 65536

noncomputable section

namespace Cert.GateUpIdeal.Rows

open Cert.Lanes Cert.GateUpIdeal Cert.GateUpIdeal.Gen Idealize.ShloMosaic Idealize.ShloMosaic.TcCoe

variable {F : FTy → Type} [FloatOps F]

/-! ## The stores into the scratch array -/

/-- The even columns of 32 rows of weights. -/
def gateT (a b : Vec F S32x128 .fp8e4m3) : FVec F S32x128 .fp8e4m3 :=
  shapeCast S32x128 (truncf .fp8e4m3 (evens iota_S32x128_d1_w32 shapeCasts_S32x128_S32x128x1 shapeCasts_S32x128x1_S32x128
    (extf .f32 (show FVec F S32x128 .fp8e4m3 from a) bitsLt_fp8e4m3_f32) (extf .f32 (show FVec F S32x128 .fp8e4m3 from b) bitsLt_fp8e4m3_f32)) bitsLt_fp8e4m3_f32) shapeCasts_S32x128_S32x128

/-- The odd columns of 32 rows of weights. -/
def upT (a b : Vec F S32x128 .fp8e4m3) : FVec F S32x128 .fp8e4m3 :=
  shapeCast S32x128 (truncf .fp8e4m3 (odds iota_S32x128_d1_w32 shapeCasts_S32x128_S32x128x1 shapeCasts_S32x128x1_S32x128 rotates_S32x128_d1
    (extf .f32 (show FVec F S32x128 .fp8e4m3 from a) bitsLt_fp8e4m3_f32) (extf .f32 (show FVec F S32x128 .fp8e4m3 from b) bitsLt_fp8e4m3_f32)) bitsLt_fp8e4m3_f32) shapeCasts_S32x128_S32x128

theorem inbW (n o : Nat) (h : n < 112) (ho : o + 128 ≤ 256) : ∀ a, (![32 * n, o] : Fin 2 → Nat) a + S32x128.size a ≤ S3584x256.size a := by
  intro a
  match a with
  | ⟨0, _⟩ => show 32 * n + 32 ≤ 3584; omega
  | ⟨1, _⟩ => show o + 128 ≤ 256; omega

theorem inbS (n o : Nat) (h : n < 112) (ho : o + 128 ≤ 512) : ∀ a, (![32 * n, o] : Fin 2 → Nat) a + S32x128.size a ≤ S3584x512.size a := by
  intro a
  match a with
  | ⟨0, _⟩ => show 32 * n + 32 ≤ 3584; omega
  | ⟨1, _⟩ => show o + 128 ≤ 512; omega

/-- 32 rows of one register of a block of weights, as loaded. -/
def wld (arg : Memref sig .tc .vmem S3584x256 .fp8e4m3) (harg : arg.IsWhole) (x : Vec F S3584x256 .fp8e4m3) (n o : Nat) (h : n < 112) (ho : o + 128 ≤ 256) :
    Vec F S32x128 .fp8e4m3 :=
  View.readAt (Elt F) arg.view (Rect.unit (s := S3584x256) ![32 * n, o] S32x128.size (inbW n o h ho)).toLoadRect (harg.unread x)

/-- The stores of the first `n` row groups of one block of weights, over earlier stores. -/
def stores (arg : Memref sig .tc .vmem S3584x256 .fp8e4m3) (harg : arg.IsWhole) (x : Vec F S3584x256 .fp8e4m3) (o p : Nat) (ho : o + 128 ≤ 512) (hp : p + 128 ≤ 512)
    (init : List (View.Piece (Elt F) S3584x512 .fp8e4m3)) : (n : Nat) → n ≤ 112 → List (View.Piece (Elt F) S3584x512 .fp8e4m3)
  | 0, _ => init
  | n + 1, h =>
    ⟨Rect.unit (s := S3584x512) ![32 * n, p] S32x128.size (inbS n p h hp), upT (wld arg harg x n 0 h (by omega)) (wld arg harg x n 128 h (by omega))⟩ ::
    ⟨Rect.unit (s := S3584x512) ![32 * n, o] S32x128.size (inbS n o h ho), gateT (wld arg harg x n 0 h (by omega)) (wld arg harg x n 128 h (by omega))⟩ ::
    stores arg harg x o p ho hp init n (by omega)

set_option maxHeartbeats 40000000 in
/-- The stores the kernel makes. -/
theorem scratch_eq (c : Dev nD) (arg3 : Memref sig .tc .vmem S3584x256 .fp8e4m3) (harg3 : arg3.IsWhole) (arg4 : Memref sig .tc .vmem S3584x256 .fp8e4m3) (harg4 : arg4.IsWhole)
    (x2 x3 : Vec F S3584x256 .fp8e4m3) :
    kernelRun0_A.sl.HS0_448 c arg3 harg3 arg4 harg4 x2 x3
      = stores arg4 harg4 x3 128 384 (by omega) (by omega) (stores arg3 harg3 x2 0 256 (by omega) (by omega) [] 112 (by omega)) 112 (by omega) := rfl

end Cert.GateUpIdeal.Rows

end
-- ==== Proof.GateUpChunks.lean ====
/- What one grid point of the kernel stores into its two results: eight chunks of 512 rows each. -/
module

public import proofs.«01_k».proof.Proof.GateUpRun
public import proofs.«01_k».proof.Proof.GateUpLanes

@[expose] public section

set_option maxRecDepth 65536

noncomputable section

namespace Cert.GateUpIdeal.Rows

open Cert.Lanes Cert.GateUpIdeal Cert.GateUpIdeal.Gen Idealize.ShloMosaic Idealize.ShloMosaic.TcCoe

variable {F : FTy → Type} [FloatOps F]

/-! ## One chunk of rows -/

/-- The hidden entries of a chunk, before they are narrowed. -/
abbrev hV (gs us : FVec F S1x256 .f32) (x : Vec F S512x3584 .fp8e4m3) (w : Vec F S3584x512 .fp8e4m3) (s : Vec F S512x1 .f32) : FVec F S512x256 .f32 :=
  k0_pay1943 gs us x w s

/-- The hidden entries of a chunk, narrowed. -/
abbrev hB (gs us : FVec F S1x256 .f32) (x : Vec F S512x3584 .fp8e4m3) (w : Vec F S3584x512 .fp8e4m3) (s : Vec F S512x1 .f32) : FVec F S512x256 .bf16 :=
  k0_pay1985 (k0_pay1943 gs us x w s)

/-- The lane-wise largest absolute values of a chunk, with the earlier ones unless the point is the first. -/
abbrev mB (j : BitVec 32) (gs us : FVec F S1x256 .f32) (x : Vec F S512x3584 .fp8e4m3) (w : Vec F S3584x512 .fp8e4m3) (s : Vec F S512x1 .f32) (p : Vec F S512x128 .f32) :
    FVec F S512x128 .f32 :=
  k0_pay1944 j gs us x w s p

/-! ## The scales of the columns -/

/-- The even entries of a row of scales. -/
def gateS (a b : Vec F S1x128 .f32) : FVec F S1x128 .f32 :=
  extractStridedSlice S1x128 ![0, 0] (evens iota_S8x128_d1_w32 shapeCasts_S8x128_S8x128x1 shapeCasts_S8x128x1_S8x128 (k0_pay1929 a) (k0_pay1930 b)) slices_S8x128_o0_0_S1x128

/-- The odd entries of a row of scales. -/
def upS (a b : Vec F S1x128 .f32) : FVec F S1x128 .f32 :=
  extractStridedSlice S1x128 ![0, 0] (odds iota_S8x128_d1_w32 shapeCasts_S8x128_S8x128x1 shapeCasts_S8x128x1_S8x128 rotates_S8x128_d1 (k0_pay1929 a) (k0_pay1930 b)) slices_S8x128_o0_0_S1x128

theorem inbV (o : Nat) (ho : o + 128 ≤ 256) : ∀ a, (![0, o] : Fin 2 → Nat) a + S1x128.size a ≤ S1x256.size a := by
  intro a
  match a with
  | ⟨0, _⟩ => show 0 + 1 ≤ 1; omega
  | ⟨1, _⟩ => show o + 128 ≤ 256; omega

/-- One register of a row of scales, as loaded. -/
def sld (arg : Memref sig .tc .vmem S1x256 .f32) (harg : arg.IsWhole) (x : Vec F S1x256 .f32) (o : Nat) (ho : o + 128 ≤ 256) : Vec F S1x128 .f32 :=
  View.readAt (Elt F) arg.view (Rect.unit (s := S1x256) ![0, o] S1x128.size (inbV o ho)).toLoadRect (harg.unread x)

variable (c : Dev nD) (i : grid0.Coords) (arg1 : Memref sig .tc .vmem S4096x3584 .fp8e4m3) (harg1 : arg1.IsWhole) (arg2 : Memref sig .tc .vmem S4096x1 .f32) (harg2 : arg2.IsWhole)
  (arg3 : Memref sig .tc .vmem S3584x256 .fp8e4m3) (harg3 : arg3.IsWhole) (arg4 : Memref sig .tc .vmem S3584x256 .fp8e4m3) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S4096x256 .bf16) (harg7 : arg7.IsWhole) (arg8 : Memref sig .tc .vmem S4096x128 .f32) (harg8 : arg8.IsWhole)
  (arg9 : Memref sig .tc .vmem S3584x512 .fp8e4m3) (harg9 : arg9.IsWhole)
  (x0 : Vec F S4096x3584 .fp8e4m3) (x1 : Vec F S4096x1 .f32) (x2 : Vec F S3584x256 .fp8e4m3) (x3 : Vec F S3584x256 .fp8e4m3) (x4 x5 : Vec F S1x256 .f32) (x7 : Vec F S4096x128 .f32)

set_option maxHeartbeats 40000000 in
theorem gs_eq : kernelRun0_A.sl.v11742 c arg5 harg5 arg6 harg6 x4 x5
    = concatenate S1x256 1 [⟨S1x128, gateS (sld arg5 harg5 x4 0 (by omega)) (sld arg5 harg5 x4 128 (by omega))⟩,
        ⟨S1x128, gateS (sld arg6 harg6 x5 0 (by omega)) (sld arg6 harg6 x5 128 (by omega))⟩] concatenates_S1x128_S1x128_S1x256_d1 := rfl

set_option maxHeartbeats 40000000 in
theorem us_eq : kernelRun0_A.sl.v11745 c arg5 harg5 arg6 harg6 x4 x5
    = concatenate S1x256 1 [⟨S1x128, upS (sld arg5 harg5 x4 0 (by omega)) (sld arg5 harg5 x4 128 (by omega))⟩,
        ⟨S1x128, upS (sld arg6 harg6 x5 0 (by omega)) (sld arg6 harg6 x5 128 (by omega))⟩] concatenates_S1x128_S1x128_S1x256_d1 := rfl

/-! ## The stores -/

theorem inbC (n w W : Nat) (h : n < 8) (hw : w ≤ W) : ∀ a, (![512 * n, 0] : Fin 2 → Nat) a + (⟨2, ![512, w]⟩ : Shape).size a ≤ (⟨2, ![4096, W]⟩ : Shape).size a := by
  intro a
  match a with
  | ⟨0, _⟩ => show 512 * n + 512 ≤ 4096; omega
  | ⟨1, _⟩ => show 0 + w ≤ W; omega

/-- A chunk of rows of the codes, as loaded. -/
def xld (n : Nat) (h : n < 8) : Vec F S512x3584 .fp8e4m3 :=
  View.readAt (Elt F) arg1.view (Rect.unit (s := S4096x3584) ![512 * n, 0] S512x3584.size (inbC n 3584 3584 h (Nat.le_refl _))).toLoadRect (harg1.unread x0)

/-- A chunk of the scales of the rows, as loaded. -/
def rld (n : Nat) (h : n < 8) : Vec F S512x1 .f32 :=
  View.readAt (Elt F) arg2.view (Rect.unit (s := S4096x1) ![512 * n, 0] S512x1.size (inbC n 1 1 h (Nat.le_refl _))).toLoadRect (harg2.unread x1)

/-- A chunk of the earlier largest absolute values, as loaded. -/
def pld (n : Nat) (h : n < 8) : Vec F S512x128 .f32 :=
  View.readAt (Elt F) arg8.view (Rect.unit (s := S4096x128) ![512 * n, 0] S512x128.size (inbC n 128 128 h (Nat.le_refl _))).toLoadRect (harg8.unread x7)

/-- The stores of the first `n` chunks of hidden entries. -/
def storesH (gs us : FVec F S1x256 .f32) (w : Vec F S3584x512 .fp8e4m3) : (n : Nat) → n ≤ 8 → List (View.Piece (Elt F) S4096x256 .bf16)
  | 0, _ => []
  | n + 1, h => ⟨Rect.unit (s := S4096x256) ![512 * n, 0] S512x256.size (inbC n 256 256 h (Nat.le_refl _)), hB gs us (xld arg1 harg1 x0 n h) w (rld arg2 harg2 x1 n h)⟩ ::
    storesH gs us w n (Nat.le_of_succ_le h)

/-- The stores of the first `n` chunks of largest absolute values. -/
def storesM (gs us : FVec F S1x256 .f32) (w : Vec F S3584x512 .fp8e4m3) : (n : Nat) → n ≤ 8 → List (View.Piece (Elt F) S4096x128 .f32)
  | 0, _ => []
  | n + 1, h => ⟨Rect.unit (s := S4096x128) ![512 * n, 0] S512x128.size (inbC n 128 128 h (Nat.le_refl _)),
      mB (BitVec.ofNat 32 (i 0).val) gs us (xld arg1 harg1 x0 n h) w (rld arg2 harg2 x1 n h) (pld arg8 harg8 x7 n h)⟩ ::
    storesM gs us w n (Nat.le_of_succ_le h)

set_option maxHeartbeats 40000000 in
theorem run_h : (kernelRun0_A c i arg1 harg1 arg2 harg2 arg3 harg3 arg4 harg4 arg5 harg5 arg6 harg6 arg7 harg7 arg8 harg8 arg9 harg9 x0 x1 x2 x3 x4 x5 x7).1
    = storesH arg1 harg1 arg2 harg2 x0 x1 (kernelRun0_A.sl.v11742 c arg5 harg5 arg6 harg6 x4 x5) (kernelRun0_A.sl.v11745 c arg5 harg5 arg6 harg6 x4 x5)
        (kernelRun0_A.sl.v11747 c arg3 harg3 arg4 harg4 arg9 x2 x3) 8 (Nat.le_refl _) := rfl

set_option maxHeartbeats 40000000 in
theorem run_m : (kernelRun0_A c i arg1 harg1 arg2 harg2 arg3 harg3 arg4 harg4 arg5 harg5 arg6 harg6 arg7 harg7 arg8 harg8 arg9 harg9 x0 x1 x2 x3 x4 x5 x7).2.1
    = storesM i arg1 harg1 arg2 harg2 arg8 harg8 x0 x1 x7 (kernelRun0_A.sl.v11742 c arg5 harg5 arg6 harg6 x4 x5) (kernelRun0_A.sl.v11745 c arg5 harg5 arg6 harg6 x4 x5)
        (kernelRun0_A.sl.v11747 c arg3 harg3 arg4 harg4 arg9 x2 x3) 8 (Nat.le_refl _) := rfl

end Cert.GateUpIdeal.Rows

end
-- ==== Proof.GateUpFrame.lean ====
/- The run of the gate and up projection with its two results named: the hidden block of each grid point, and the lane-wise
   largest absolute values, which the points accumulate one after another. -/
module

public import proofs.«01_k».proof.Proof.GateUpTiles
public import proofs.«01_k».proof.Proof.GateUpChunks
public import Idealize.ShloMosaic.Lib.Claim

@[expose] public section

set_option maxRecDepth 16384

noncomputable section

namespace Cert.GateUpIdeal.Named

open Cert.GateUpIdeal Cert.GateUpIdeal.Gen Cert.GateUpIdeal.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of a point cover its results -/

section Cover
variable (i : grid0.Coords) (arg1 : Memref sig .tc .vmem S4096x3584 .fp8e4m3) (harg1 : arg1.IsWhole) (arg2 : Memref sig .tc .vmem S4096x1 .f32) (harg2 : arg2.IsWhole)
  (arg8 : Memref sig .tc .vmem S4096x128 .f32) (harg8 : arg8.IsWhole)
  (x0 : Vec F S4096x3584 .fp8e4m3) (x1 : Vec F S4096x1 .f32) (x7 : Vec F S4096x128 .f32) (gs us : FVec F S1x256 .f32) (w : Vec F S3584x512 .fp8e4m3)

theorem mem_row {c C : Nat} (n : Nat) (hn : n < 8) (hc : c = C) (y : (⟨2, ![4096, C]⟩ : Shape).Idx) (hy : (y 0).val / 512 = n) :
    y ∈ (Rect.unit (s := ⟨2, ![4096, C]⟩) ![512 * n, 0] (⟨2, ![512, c]⟩ : Shape).size (inbC n c C hn (Nat.le_of_eq hc))).set := by
  subst hc
  have h0 : (y 0).val < 4096 := (y 0).isLt
  have h1 : (y 1).val < c := (y 1).isLt
  rw [Rect.mem_set_unit]
  intro a
  match a with
  | ⟨0, _⟩ =>
    show 512 * n ≤ (y 0).val ∧ (y 0).val < 512 * n + 512
    omega
  | ⟨1, _⟩ =>
    show 0 ≤ (y 1).val ∧ (y 1).val < 0 + c
    omega

theorem mem_storesH (k : Nat) : ∀ (n : Nat) (hn : n ≤ 8) (hk : k < n),
    (⟨Rect.unit (s := S4096x256) ![512 * k, 0] S512x256.size (inbC k 256 256 (Nat.lt_of_lt_of_le hk hn) (Nat.le_refl _)),
      hB gs us (xld arg1 harg1 x0 k (Nat.lt_of_lt_of_le hk hn)) w (rld arg2 harg2 x1 k (Nat.lt_of_lt_of_le hk hn))⟩ : View.Piece (Elt F) S4096x256 .bf16)
      ∈ storesH arg1 harg1 arg2 harg2 x0 x1 gs us w n hn
  | 0, _, hk => absurd hk (Nat.not_lt_zero _)
  | n + 1, hn, hk => by
    rcases Nat.lt_succ_iff_lt_or_eq.mp hk with h | h
    · exact List.mem_cons_of_mem _ (mem_storesH k n (by omega) h)
    · subst h; exact List.mem_cons_self

theorem mem_storesM (k : Nat) : ∀ (n : Nat) (hn : n ≤ 8) (hk : k < n),
    (⟨Rect.unit (s := S4096x128) ![512 * k, 0] S512x128.size (inbC k 128 128 (Nat.lt_of_lt_of_le hk hn) (Nat.le_refl _)),
      mB (BitVec.ofNat 32 (i 0).val) gs us (xld arg1 harg1 x0 k (Nat.lt_of_lt_of_le hk hn)) w (rld arg2 harg2 x1 k (Nat.lt_of_lt_of_le hk hn))
        (pld arg8 harg8 x7 k (Nat.lt_of_lt_of_le hk hn))⟩ : View.Piece (Elt F) S4096x128 .f32)
      ∈ storesM i arg1 harg1 arg2 harg2 arg8 harg8 x0 x1 x7 gs us w n hn
  | 0, _, hk => absurd hk (Nat.not_lt_zero _)
  | n + 1, hn, hk => by
    rcases Nat.lt_succ_iff_lt_or_eq.mp hk with h | h
    · exact List.mem_cons_of_mem _ (mem_storesM k n (by omega) h)
    · subst h; exact List.mem_cons_self

theorem coverH (y : S4096x256.Idx) : ∃ p ∈ storesH arg1 harg1 arg2 harg2 x0 x1 gs us w 8 (Nat.le_refl _), y ∈ p.1.set := by
  have h0 : (y 0).val < 4096 := (y 0).isLt
  have hk : (y 0).val / 512 < 8 := by omega
  exact ⟨_, mem_storesH arg1 harg1 arg2 harg2 x0 x1 gs us w ((y 0).val / 512) 8 (Nat.le_refl _) hk, mem_row _ hk rfl y rfl⟩

theorem coverM (y : S4096x128.Idx) : ∃ p ∈ storesM i arg1 harg1 arg2 harg2 arg8 harg8 x0 x1 x7 gs us w 8 (Nat.le_refl _), y ∈ p.1.set := by
  have h0 : (y 0).val < 4096 := (y 0).isLt
  have hk : (y 0).val / 512 < 8 := by omega
  exact ⟨_, mem_storesM i arg1 harg1 arg2 harg2 arg8 harg8 x0 x1 x7 gs us w ((y 0).val / 512) 8 (Nat.le_refl _) hk, mem_row _ hk rfl y rfl⟩

/-- At the first point the earlier values are not used. -/
theorem mB_first (x : Vec F S512x3584 .fp8e4m3) (s : Vec F S512x1 .f32) (p q : Vec F S512x128 .f32) : mB 0#32 gs us x w s p = mB 0#32 gs us x w s q := by
  unfold mB k0_pay1944
  dsimp only
  rw [show Scalar.cmpi .eq 0#32 0#32 = 1#1 from rfl]
  rfl

theorem storesM_first (hi : (i 0).val = 0) (q : Vec F S4096x128 .f32) : ∀ (n : Nat) (hn : n ≤ 8),
    storesM i arg1 harg1 arg2 harg2 arg8 harg8 x0 x1 x7 gs us w n hn = storesM i arg1 harg1 arg2 harg2 arg8 harg8 x0 x1 q gs us w n hn
  | 0, _ => rfl
  | n + 1, hn => by
    unfold storesM
    rw [storesM_first hi q n (by omega), hi]
    rw [mB_first gs us w _ _ (pld arg8 harg8 x7 n hn) (pld arg8 harg8 q n hn)]

end Cover

/-! ## The results of a point -/

/-- Each window's current staging memref at point `t`, spelled as the pipeline passes it (`bodyAt0`), and its wholeness. -/
abbrev ms0_0 (t : Fin cfg0.N) : Memref sig .tc .vmem S4096x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3584x512 .fp8e4m3 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The scales of the gate's columns at a point. -/
def gsAt (c : Dev nD) (t : Fin cfg0.N) : FVec F S1x256 .f32 := kernelRun0_A.sl.v11742 c (ms0_4 t) (hs0_4 t) (ms0_5 t) (hs0_5 t) (iblk m c 4 t) (iblk m c 5 t)

/-- The scales of the up projection's columns at a point. -/
def usAt (c : Dev nD) (t : Fin cfg0.N) : FVec F S1x256 .f32 := kernelRun0_A.sl.v11745 c (ms0_4 t) (hs0_4 t) (ms0_5 t) (hs0_5 t) (iblk m c 4 t) (iblk m c 5 t)

/-- The weights at a point, their columns taken apart. -/
def wAt (c : Dev nD) (t : Fin cfg0.N) : Vec F S3584x512 .fp8e4m3 :=
  kernelRun0_A.sl.v11747 c (ms0_2 t) (hs0_2 t) (ms0_3 t) (hs0_3 t) scM0_0 (iblk m c 2 t) (iblk m c 3 t)

/-- The hidden block of a point. -/
def hAt (c : Dev nD) (t : Fin cfg0.N) : Vec F S4096x256 .bf16 :=
  View.canon (storesH (ms0_0 t) (hs0_0 t) (ms0_1 t) (hs0_1 t) (iblk m c 0 t) (iblk m c 1 t) (gsAt m c t) (usAt m c t) (wAt m c t) 8 (Nat.le_refl _))

/-- The largest absolute values after a point, from those before it. -/
def mAt (c : Dev nD) (t : Fin cfg0.N) (p : Vec F S4096x128 .f32) : Vec F S4096x128 .f32 :=
  View.canon (storesM (grid0.coords t) (ms0_0 t) (hs0_0 t) (ms0_1 t) (hs0_1 t) (ms0_7 t) (hs0_7 t) (iblk m c 0 t) (iblk m c 1 t) p (gsAt m c t) (usAt m c t) (wAt m c t) 8 (Nat.le_refl _))

/-- The largest absolute values after each point. -/
def acc (c : Dev nD) : Nat → Vec F S4096x128 .f32
  | 0 => mAt m c ⟨0, by have hN : cfg0.N = 37 := N_0; omega⟩ (View.canon [])
  | n + 1 => if h : n + 1 < cfg0.N then mAt m c ⟨n + 1, h⟩ (acc c n) else acc c n

theorem coords_zero : ∀ t : Fin cfg0.N, t.val = 0 → (grid0.coords t 0).val = 0 :=
  (by decide +kernel : ∀ t : Fin grid0.N, t.val = 0 → (grid0.coords t 0).val = 0)

theorem mAt_first (c : Dev nD) (t : Fin cfg0.N) (ht : t.val = 0) (p q : Vec F S4096x128 .f32) : mAt m c t p = mAt m c t q := by
  unfold mAt
  rw [storesM_first _ _ _ _ _ _ _ _ _ p _ _ _ (coords_zero t ht) q]

/-! ## The proof data -/

/-- The proof data: the arrays as launched; after a point each input's block, the hidden block, and the largest absolute
    values so far; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hAt m c t
    | ⟨7, _⟩ => acc m c t.val
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hAt m c t := by dsimp only [dats]
theorem after0_7 (c : Dev nD) (t : Fin cfg0.N) : (dats m 0 c).after 7 t = acc m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What a point makes of the values it finds is what the recursion says. -/
theorem acc_step (c : Dev nD) (t : Fin cfg0.N) (d) : mAt m c t ((dats m 0 c).before 7 t d) = acc m c t.val := by
  have hN : cfg0.N = 37 := N_0
  by_cases h : t.val = 0
  · obtain ⟨v, hv⟩ := t
    subst h
    exact mAt_first m c _ rfl _ _
  · rw [(dats m 0 c).before_out_kept 7 rfl t h (by
      rw [Bool.eq_false_iff]
      intro hf
      have := (flush0_7 _).mp hf
      have := t.isLt
      simp only at *
      omega) (fun _ => rfl) (fun _ _ => rfl) d, after0_7]
    obtain ⟨v, hv⟩ := t
    obtain ⟨n, rfl⟩ := Nat.exists_eq_succ_of_ne_zero h
    show _ = acc m c (n + 1)
    rw [acc, dif_pos hv]
    rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t) ((dats m 0 c).before 7 t d7)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  iintro ⟨H0, H1, H2, H3, H4, H5, ⟨%e6, H6⟩, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    rw [run_h]
    exact View.read_writes_eq_canon _ _ _ (coverH _ _ _ _ _ _ _ _ _)
  unfold owns; iexists _; isplitr
  swap; · iexact H7
  ipureintro
  rw [run_m]
  exact (View.read_writes_eq_canon _ _ _ (coverM _ _ _ _ _ _ _ _ _ _ _ _ _)).trans (acc_step m c t d7)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments are found by unifying the conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with each array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- Every run leaves the argument arrays as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.GateUpIdeal.Named

end
-- ==== Proof.GateUpPoint.lean ====
/- What one grid point of the gate and up projection computes, on the extended reals, entry by entry: its weights and scales
   with the interleaved columns taken apart, a chunk of hidden entries, and the largest absolute values. -/
module

public import proofs.«01_k».proof.Proof.GateUpRows
public import proofs.«01_k».proof.Proof.GateUpTiles
public import proofs.«01_k».proof.Proof.GateUpChunks
public import proofs.«01_k».proof.Proof.GateUpFrame
public import Idealize.ShloMosaic.Lib.Pipeline.CanonAppend
public import Idealize.ShloMosaic.Lib.Pipeline.ValueKit.Tiles

@[expose] public section

set_option maxRecDepth 16384

noncomputable section

namespace Cert.GateUpIdeal.Point

open Cert.GateUpIdeal Cert.GateUpIdeal.Gen Cert.GateUpIdeal.Rows Cert.GateUpIdeal.Named Cert.Rows Cert.Lanes
open Idealize.ShloMosaic Idealize.ShloMosaic.TcCoe Idealize.ShloMosaic.ValueIdx
open scoped BigOperators

/-! ## The weights -/

/-- The weights of a point, the even columns of the two blocks first. -/
def apart (x2 x3 : Vec Ideal S3584x256 .fp8e4m3) : Vec Ideal S3584x512 .fp8e4m3 := fun y =>
  if (y 1).val % 256 < 128 then x2 (ix2 (y 0) ⟨2 * ((y 1).val % 128) + (y 1).val / 256, by have h : (y 1).val < 512 := (y 1).isLt; omega⟩)
  else x3 (ix2 (y 0) ⟨2 * ((y 1).val % 128) + (y 1).val / 256, by have h : (y 1).val < 512 := (y 1).isLt; omega⟩)

theorem gateT_apply (a b : Vec Ideal S32x128 .fp8e4m3) (r : Fin 32) (l : Fin 128) :
    gateT a b (ix2 r l) = if h : l.val < 64 then a (ix2 r ⟨2 * l.val, by omega⟩) else b (ix2 r ⟨2 * (l.val - 64), by have := l.isLt; omega⟩) := by
  unfold gateT
  rw [shapeCast_apply _ shapeCasts_S32x128_S32x128 (ix2 r l) (ix2 r l) rfl]
  exact evens_apply _ _ _ _ _ r l

theorem upT_apply (a b : Vec Ideal S32x128 .fp8e4m3) (r : Fin 32) (l : Fin 128) :
    upT a b (ix2 r l) = if h : l.val < 64 then a (ix2 r ⟨2 * l.val + 1, by omega⟩) else b (ix2 r ⟨2 * (l.val - 64) + 1, by have := l.isLt; omega⟩) := by
  unfold upT
  rw [shapeCast_apply _ shapeCasts_S32x128_S32x128 (ix2 r l) (ix2 r l) rfl]
  exact odds_apply _ _ _ rotates_S32x128_d1 _ _ r l

section Weights
variable (arg : Memref sig .tc .vmem S3584x256 .fp8e4m3) (harg : arg.IsWhole) (x : Vec Ideal S3584x256 .fp8e4m3)

/-- Row `r` of row group `n`. -/
def grow (n : Nat) (h : n < 112) (r : Fin 32) : Fin 3584 := ⟨32 * n + r.val, by have := r.isLt; omega⟩

theorem wld_apply (n o : Nat) (h : n < 112) (ho : o + 128 ≤ 256) (r : Fin 32) (l : Fin 128) :
    wld arg harg x n o h ho (ix2 r l) = x (ix2 (grow n h r) ⟨o + l.val, by have := l.isLt; omega⟩) := by
  unfold wld
  rw [View.readAt_eq_ld, harg.read_unread]
  refine View.ld_unit_apply_of x _ _ _ _ _ fun a => ?_
  match a with
  | ⟨0, _⟩ => rfl
  | ⟨1, _⟩ => rfl

theorem gate_group (n : Nat) (h : n < 112) (r : Fin 32) (l : Fin 128) :
    gateT (wld arg harg x n 0 h (by omega)) (wld arg harg x n 128 h (by omega)) (ix2 r l) = x (ix2 (grow n h r) ⟨2 * l.val, by have := l.isLt; omega⟩) := by
  rw [gateT_apply]
  split
  · rw [wld_apply]
    exact congrArg x (Shape.idx_ext₂ rfl (by show 0 + 2 * l.val = 2 * l.val; omega))
  · rw [wld_apply]
    exact congrArg x (Shape.idx_ext₂ rfl (by show 128 + 2 * (l.val - 64) = 2 * l.val; omega))

theorem up_group (n : Nat) (h : n < 112) (r : Fin 32) (l : Fin 128) :
    upT (wld arg harg x n 0 h (by omega)) (wld arg harg x n 128 h (by omega)) (ix2 r l) = x (ix2 (grow n h r) ⟨2 * l.val + 1, by have := l.isLt; omega⟩) := by
  rw [upT_apply]
  split
  · rw [wld_apply]
    exact congrArg x (Shape.idx_ext₂ rfl (by show 0 + (2 * l.val + 1) = 2 * l.val + 1; omega))
  · rw [wld_apply]
    exact congrArg x (Shape.idx_ext₂ rfl (by show 128 + (2 * (l.val - 64) + 1) = 2 * l.val + 1; omega))

theorem emb_tile (n o : Nat) (h : n < 112) (ho : o + 128 ≤ 512) (r : Fin 32) (l : Fin 128) :
    (Rect.unit (s := S3584x512) ![32 * n, o] S32x128.size (inbS n o h ho)).emb (ix2 r l : S32x128.Idx)
      = (ix2 (grow n h r) ⟨o + l.val, by have := l.isLt; omega⟩ : S3584x512.Idx) := by
  funext a; apply Fin.ext
  refine (Rect.idx_unit_val _ _ _ _ a).trans ?_
  match a with
  | ⟨0, _⟩ => rfl
  | ⟨1, _⟩ => rfl

/-- Every store of one block of weights agrees with `G`, if `G` has the block's even columns from `o` on and its odd ones from `p` on. -/
theorem stores_agree (o p : Nat) (ho : o + 128 ≤ 512) (hp : p + 128 ≤ 512) (init : List (View.Piece (Elt Ideal) S3584x512 .fp8e4m3))
    (G : Vec Ideal S3584x512 .fp8e4m3) (hi : ∀ q ∈ init, ∀ z : q.1.shape.Idx, q.2 z = G (q.1.emb z))
    (hg : ∀ (k : Fin 3584) (l : Fin 128), G (ix2 k ⟨o + l.val, by have := l.isLt; omega⟩) = x (ix2 k ⟨2 * l.val, by have := l.isLt; omega⟩))
    (hu : ∀ (k : Fin 3584) (l : Fin 128), G (ix2 k ⟨p + l.val, by have := l.isLt; omega⟩) = x (ix2 k ⟨2 * l.val + 1, by have := l.isLt; omega⟩)) :
    ∀ (n : Nat) (h : n ≤ 112), ∀ q ∈ stores arg harg x o p ho hp init n h, ∀ z : q.1.shape.Idx, q.2 z = G (q.1.emb z)
  | 0, _ => hi
  | n + 1, h => by
    unfold stores
    intro q hq
    rcases List.mem_cons.mp hq with rfl | hq
    · intro z
      obtain ⟨r, l, rfl⟩ : ∃ (r : Fin 32) (l : Fin 128), z = (ix2 r l : S32x128.Idx) := ⟨z 0, z 1, eq_ix2 z⟩
      rw [emb_tile n p h hp r l, hu]
      exact up_group arg harg x n h r l
    rcases List.mem_cons.mp hq with rfl | hq
    · intro z
      obtain ⟨r, l, rfl⟩ : ∃ (r : Fin 32) (l : Fin 128), z = (ix2 r l : S32x128.Idx) := ⟨z 0, z 1, eq_ix2 z⟩
      rw [emb_tile n o h ho r l, hg]
      exact gate_group arg harg x n h r l
    · exact stores_agree o p ho hp init G hi hg hu n (by omega) q hq

theorem mem_init (o p : Nat) (ho : o + 128 ≤ 512) (hp : p + 128 ≤ 512) (init : List (View.Piece (Elt Ideal) S3584x512 .fp8e4m3)) (q) (hq : q ∈ init) :
    ∀ (n : Nat) (h : n ≤ 112), q ∈ stores arg harg x o p ho hp init n h
  | 0, _ => hq
  | n + 1, h => List.mem_cons_of_mem _ (List.mem_cons_of_mem _ (mem_init o p ho hp init q hq n (by omega)))

theorem mem_tile (n o : Nat) (h : n < 112) (ho : o + 128 ≤ 512) (y : S3584x512.Idx) (h0 : (y 0).val / 32 = n) (h1 : o ≤ (y 1).val) (h2 : (y 1).val < o + 128) :
    y ∈ (Rect.unit (s := S3584x512) ![32 * n, o] S32x128.size (inbS n o h ho)).set := by
  rw [Rect.mem_set_unit]
  intro a
  match a with
  | ⟨0, _⟩ =>
    show 32 * n ≤ (y 0).val ∧ (y 0).val < 32 * n + 32
    omega
  | ⟨1, _⟩ => exact ⟨h1, h2⟩

/-- Some store of one block of weights covers an index in its columns. -/
theorem stores_cover (o p : Nat) (ho : o + 128 ≤ 512) (hp : p + 128 ≤ 512) (init : List (View.Piece (Elt Ideal) S3584x512 .fp8e4m3)) (y : S3584x512.Idx)
    (hy : (o ≤ (y 1).val ∧ (y 1).val < o + 128) ∨ (p ≤ (y 1).val ∧ (y 1).val < p + 128)) :
    ∀ (n : Nat) (h : n ≤ 112), (y 0).val / 32 < n → ∃ q ∈ stores arg harg x o p ho hp init n h, y ∈ q.1.set
  | 0, _, hn => absurd hn (Nat.not_lt_zero _)
  | n + 1, h, hn => by
    unfold stores
    rcases Nat.lt_succ_iff_lt_or_eq.mp hn with hn | hn
    · obtain ⟨q, hq, hm⟩ := stores_cover o p ho hp init y hy n (by omega) hn
      exact ⟨q, List.mem_cons_of_mem _ (List.mem_cons_of_mem _ hq), hm⟩
    · rcases hy with hy | hy
      · exact ⟨_, List.mem_cons_of_mem _ List.mem_cons_self, mem_tile n o h ho y hn hy.1 hy.2⟩
      · exact ⟨_, List.mem_cons_self, mem_tile n p h hp y hn hy.1 hy.2⟩

end Weights

/-- What the scratch array holds after the stores. -/
theorem scratch_apply (arg3 : Memref sig .tc .vmem S3584x256 .fp8e4m3) (harg3 : arg3.IsWhole) (arg4 : Memref sig .tc .vmem S3584x256 .fp8e4m3) (harg4 : arg4.IsWhole)
    (x2 x3 : Vec Ideal S3584x256 .fp8e4m3) (y : S3584x512.Idx) :
    View.canon (stores arg4 harg4 x3 128 384 (by omega) (by omega) (stores arg3 harg3 x2 0 256 (by omega) (by omega) [] 112 (by omega)) 112 (by omega)) y = apart x2 x3 y := by
  have h0 : (y 0).val < 3584 := (y 0).isLt
  have h1 : (y 1).val < 512 := (y 1).isLt
  have hn : (y 0).val / 32 < 112 := by omega
  refine (congrArg (fun L => View.canon L y) (List.append_nil _).symm).trans
    (View.canon_append_of_pieces (apart x2 x3) [] _ (stores_agree arg4 harg4 x3 128 384 _ _ _ (apart x2 x3)
      (stores_agree arg3 harg3 x2 0 256 _ _ [] (apart x2 x3) (fun _ h => absurd h List.not_mem_nil) ?_ ?_ 112 _) ?_ ?_ 112 _) y ?_)
  · intro k l
    have hl := l.isLt
    unfold apart
    rw [if_pos (show (0 + l.val) % 256 < 128 by omega)]
    exact congrArg x2 (Shape.idx_ext₂ rfl (by show 2 * ((0 + l.val) % 128) + (0 + l.val) / 256 = 2 * l.val; omega))
  · intro k l
    have hl := l.isLt
    unfold apart
    rw [if_pos (show (256 + l.val) % 256 < 128 by omega)]
    exact congrArg x2 (Shape.idx_ext₂ rfl (by show 2 * ((256 + l.val) % 128) + (256 + l.val) / 256 = 2 * l.val + 1; omega))
  · intro k l
    have hl := l.isLt
    unfold apart
    rw [if_neg (show ¬ (128 + l.val) % 256 < 128 by omega)]
    exact congrArg x3 (Shape.idx_ext₂ rfl (by show 2 * ((128 + l.val) % 128) + (128 + l.val) / 256 = 2 * l.val; omega))
  · intro k l
    have hl := l.isLt
    unfold apart
    rw [if_neg (show ¬ (384 + l.val) % 256 < 128 by omega)]
    exact congrArg x3 (Shape.idx_ext₂ rfl (by show 2 * ((384 + l.val) % 128) + (384 + l.val) / 256 = 2 * l.val + 1; omega))
  · by_cases hc : (y 1).val % 256 < 128
    · obtain ⟨q, hq, hm⟩ := stores_cover arg3 harg3 x2 0 256 (by omega) (by omega) [] y (by omega) 112 (by omega) hn
      exact ⟨q, mem_init arg4 harg4 x3 128 384 _ _ _ q hq 112 _, hm⟩
    · exact stores_cover arg4 harg4 x3 128 384 (by omega) (by omega) _ y (by omega) 112 (by omega) hn

/-- The weights of a point. -/
theorem weights_apply (c : Dev nD) (arg3 : Memref sig .tc .vmem S3584x256 .fp8e4m3) (harg3 : arg3.IsWhole) (arg4 : Memref sig .tc .vmem S3584x256 .fp8e4m3) (harg4 : arg4.IsWhole)
    (arg9 : Memref sig .tc .vmem S3584x512 .fp8e4m3) (x2 x3 : Vec Ideal S3584x256 .fp8e4m3) (y : S3584x512.Idx) :
    kernelRun0_A.sl.v11747 c arg3 harg3 arg4 harg4 arg9 x2 x3 y = apart x2 x3 y := by
  unfold kernelRun0_A.sl.v11747
  rw [View.readCov_eq_canon', scratch_eq]
  refine Eq.trans (congrArg _ ?_) (scratch_apply arg3 harg3 arg4 harg4 x2 x3 y)
  funext a; apply Fin.ext
  refine (Rect.idx_unit_val _ _ _ _ a).trans ?_
  match a with
  | ⟨0, _⟩ => exact Nat.zero_add _
  | ⟨1, _⟩ => exact Nat.zero_add _

/-! ## The scales of the columns -/

theorem row8_apply (a : Vec Ideal S1x128 .f32) (r : Fin 8) (l : Fin 128) : k0_pay1929 a (ix2 r l) = a (ix2 0 l) := by
  unfold k0_pay1929
  rw [brow_apply, shapeCast_apply _ shapeCasts_S1x128_S1x128 (ix2 0 l) (ix2 0 l) rfl]

theorem row8_apply' (a : Vec Ideal S1x128 .f32) (r : Fin 8) (l : Fin 128) : k0_pay1930 a (ix2 r l) = a (ix2 0 l) := row8_apply a r l

theorem gateS_apply (a b : Vec Ideal S1x128 .f32) (l : Fin 128) :
    gateS a b (ix2 (0 : Fin 1) l) = if h : l.val < 64 then a (ix2 0 ⟨2 * l.val, by omega⟩) else b (ix2 0 ⟨2 * (l.val - 64), by have := l.isLt; omega⟩) := by
  unfold gateS
  rw [extractStridedSlice_apply _ _ slices_S8x128_o0_0_S1x128 (ix2 (0 : Fin 1) l) (ix2 (0 : Fin 8) l) (fun a => by
    match a with
    | ⟨0, _⟩ => rfl
    | ⟨1, _⟩ => show l.val = 0 + l.val; omega), evens_apply]
  split
  · exact row8_apply a 0 _
  · exact row8_apply' b 0 _

theorem upS_apply (a b : Vec Ideal S1x128 .f32) (l : Fin 128) :
    upS a b (ix2 (0 : Fin 1) l) = if h : l.val < 64 then a (ix2 0 ⟨2 * l.val + 1, by omega⟩) else b (ix2 0 ⟨2 * (l.val - 64) + 1, by have := l.isLt; omega⟩) := by
  unfold upS
  rw [extractStridedSlice_apply _ _ slices_S8x128_o0_0_S1x128 (ix2 (0 : Fin 1) l) (ix2 (0 : Fin 8) l) (fun a => by
    match a with
    | ⟨0, _⟩ => rfl
    | ⟨1, _⟩ => show l.val = 0 + l.val; omega), odds_apply]
  split
  · exact row8_apply a 0 _
  · exact row8_apply' b 0 _

section Scales
variable (arg : Memref sig .tc .vmem S1x256 .f32) (harg : arg.IsWhole) (x : Vec Ideal S1x256 .f32)

theorem sld_apply (o : Nat) (ho : o + 128 ≤ 256) (l : Fin 128) :
    sld arg harg x o ho (ix2 (0 : Fin 1) l) = x (ix2 0 ⟨o + l.val, by have := l.isLt; omega⟩) := by
  unfold sld
  rw [View.readAt_eq_ld, harg.read_unread]
  refine View.ld_unit_apply_of x _ _ _ _ _ fun a => ?_
  match a with
  | ⟨0, _⟩ => rfl
  | ⟨1, _⟩ => rfl

theorem gate_scale (l : Fin 128) : gateS (sld arg harg x 0 (by omega)) (sld arg harg x 128 (by omega)) (ix2 (0 : Fin 1) l) = x (ix2 0 ⟨2 * l.val, by have := l.isLt; omega⟩) := by
  rw [gateS_apply]
  split
  · rw [sld_apply]
    exact congrArg x (Shape.idx_ext₂ rfl (by show 0 + 2 * l.val = 2 * l.val; omega))
  · rw [sld_apply]
    exact congrArg x (Shape.idx_ext₂ rfl (by show 128 + 2 * (l.val - 64) = 2 * l.val; omega))

theorem up_scale (l : Fin 128) : upS (sld arg harg x 0 (by omega)) (sld arg harg x 128 (by omega)) (ix2 (0 : Fin 1) l) = x (ix2 0 ⟨2 * l.val + 1, by have := l.isLt; omega⟩) := by
  rw [upS_apply]
  split
  · rw [sld_apply]
    exact congrArg x (Shape.idx_ext₂ rfl (by show 0 + (2 * l.val + 1) = 2 * l.val + 1; omega))
  · rw [sld_apply]
    exact congrArg x (Shape.idx_ext₂ rfl (by show 128 + (2 * (l.val - 64) + 1) = 2 * l.val + 1; omega))

end Scales

/-- Two rows of 128 side by side, at a column. -/
theorem beside_apply {α : Type} (a b : S1x128.Idx → α) (h : Shape.Concatenates [S1x128, S1x128] S1x256 1) (n : Fin 256) :
    concatenate S1x256 1 [⟨S1x128, a⟩, ⟨S1x128, b⟩] h (ix2 (0 : Fin 1) n)
      = if hn : n.val < 128 then a (ix2 0 ⟨n.val, hn⟩) else b (ix2 0 ⟨n.val - 128, by have := n.isLt; omega⟩) := by
  split
  · next hn =>
    refine concatenate_pair_apply_left 1 a b h _ rfl (ix2 0 ⟨n.val, hn⟩) fun k => ?_
    match k with
    | ⟨0, _⟩ => rfl
    | ⟨1, _⟩ => rfl
  · next hn =>
    refine concatenate_pair_apply_right 1 a b h _ rfl rfl (ix2 0 ⟨n.val - 128, by have := n.isLt; omega⟩) (fun k hk => ?_) ?_
    · match k with
      | ⟨0, _⟩ => rfl
      | ⟨1, _⟩ => exact absurd rfl hk
    · show n.val - 128 + 128 = n.val
      omega

/-! ## A chunk of rows -/

theorem pow_up : Ideal.ofBits .f32 0x5F800000#32 = ((18446744073709551616 : ℝ) : EReal) := by
  simp [Ideal.ofBits, Ideal.ieee, -EReal.coe_mul]; norm_num

theorem pow_down : Ideal.ofBits .f32 0x1F800000#32 = ((2 ^ 64 : ℝ)⁻¹ : ℝ) := by
  simp [Ideal.ofBits, Ideal.ieee, -EReal.coe_mul]; norm_num

/-- The two powers of two undo each other. -/
theorem up_down : (Ideal.ofBits .f32 0x5F800000#32 * Ideal.ofBits .f32 0x1F800000#32 : EReal) = 1 := by
  rw [pow_up, pow_down, ← EReal.coe_mul]
  norm_num

/-- A number brought into range, rounded to itself and brought back is kept. -/
theorem kept_apply {s : Shape} (h near z : FVec Ideal s .f32) (small : IVec s 1)
    (e : near = mulf h (select small (broadcast s (Scalar.ofBits (F := Ideal) .f32 0x5F800000#32)) (broadcast s (Scalar.ofBits (F := Ideal) .f32 0x1F800000#32))))
    (j : s.Idx) (hb : FTy.bf16.bits < FTy.f32.bits) :
    truncf (F := Ideal) .bf16 (mulf (select (cmpf .oeq near near) near z)
      (select small (broadcast s (Scalar.ofBits (F := Ideal) .f32 0x1F800000#32)) (broadcast s (Scalar.ofBits (F := Ideal) .f32 0x5F800000#32)))) hb j = h j := by
  have hj : near j = (h j * Scalar.select (small j) (Ideal.ofBits .f32 0x5F800000#32) (Ideal.ofBits .f32 0x1F800000#32) : EReal) := congrFun e j
  have hc : Ideal.cmp .oeq (near j) (near j) = 1#1 := by simp [Ideal.cmp]
  show (Scalar.select (Ideal.cmp .oeq (near j) (near j)) (near j) (z j)
    * Scalar.select (small j) (Ideal.ofBits .f32 0x1F800000#32) (Ideal.ofBits .f32 0x5F800000#32) : EReal) = h j
  rw [hc]
  show (near j * _ : EReal) = h j
  rw [hj]
  by_cases hs : small j = 1#1
  · rw [hs]
    show (h j * Ideal.ofBits .f32 0x5F800000#32 * Ideal.ofBits .f32 0x1F800000#32 : EReal) = h j
    rw [mul_assoc, up_down, mul_one]
  · rw [show small j = 0#1 by revert hs; generalize small j = b; revert b; decide]
    show (h j * Ideal.ofBits .f32 0x1F800000#32 * Ideal.ofBits .f32 0x5F800000#32 : EReal) = h j
    rw [mul_assoc, mul_comm (Ideal.ofBits .f32 0x1F800000#32), up_down, mul_one]

section Chunk
variable (gs us : FVec Ideal S1x256 .f32) (x : Vec Ideal S512x3584 .fp8e4m3) (w : Vec Ideal S3584x512 .fp8e4m3) (s : Vec Ideal S512x1 .f32)

/-- The products. -/
def accV (x : FVec Ideal S512x3584 .fp8e4m3) (w : FVec Ideal S3584x512 .fp8e4m3) : FVec Ideal S512x512 .f32 :=
  FloatOps.matmul (F := Ideal) (φ₁ := .fp8e4m3) (φ₂ := .fp8e4m3) dot_S512x3584_S3584x512_S512x512_1_0_0_1_n_n none x w (constant S512x512 .f32 0x00000000#32)

theorem accV_apply (x : FVec Ideal S512x3584 .fp8e4m3) (w : FVec Ideal S3584x512 .fp8e4m3) (r : Fin 512) (n : Fin 512) :
    accV x w (ix2 r n) = ∑ k : Fin 3584, (x (ix2 r k) * w (ix2 k n) : EReal) := by
  unfold accV
  rw [show dot_S512x3584_S3584x512_S512x512_1_0_0_1_n_n = DotDims.plain 512 3584 512 from rfl]
  erw [dot_apply]

/-- One half of the products, scaled. -/
def halfV (o : Nat) (h : S512x512.Slices ![0, o] S512x256) (x : FVec Ideal S512x3584 .fp8e4m3) (w : FVec Ideal S3584x512 .fp8e4m3) (s : FVec Ideal S512x1 .f32) (g : FVec Ideal S1x256 .f32) :
    FVec Ideal S512x256 .f32 :=
  mulf (mulf (extractStridedSlice S512x256 ![0, o] (accV x w) h) (broadcastTo S512x256 s broadcasts_S512x1_S512x256)) (broadcastTo S512x256 g broadcasts_S1x256_S512x256)

theorem halfV_apply (o : Nat) (h : S512x512.Slices ![0, o] S512x256) (x : FVec Ideal S512x3584 .fp8e4m3) (w : FVec Ideal S3584x512 .fp8e4m3) (s : FVec Ideal S512x1 .f32) (g : FVec Ideal S1x256 .f32)
    (r : Fin 512) (n : Fin 256) (k : Fin 512) (hk : k.val = o + n.val) :
    halfV o h x w s g (ix2 r n) = (((∑ k' : Fin 3584, (x (ix2 r k') * w (ix2 k' k) : EReal)) * s (ix2 r 0)) * g (ix2 0 n) : EReal) := by
  unfold halfV
  rw [scaled_apply, bcol_apply, brow_apply, slice2_axis1_apply _ _ _ _ n k hk, accV_apply]

theorem hV_eq : hV (F := Ideal) gs us x w s
    = mulf (mulf (halfV 0 slices_S512x512_o0_0_S512x256 x w s gs) (logistic (halfV 0 slices_S512x512_o0_0_S512x256 x w s gs))) (halfV 256 slices_S512x512_o0_256_S512x256 x w s us) := rfl

/-- A hidden entry of a chunk. -/
theorem hV_apply (r : Fin 512) (n : Fin 256) : hV (F := Ideal) gs us x w s (ix2 r n)
    = hid (∑ k : Fin 3584, x (ix2 r k) * w (ix2 k ⟨n.val, by have := n.isLt; omega⟩)) (∑ k : Fin 3584, x (ix2 r k) * w (ix2 k ⟨256 + n.val, by have := n.isLt; omega⟩))
        (s (ix2 r 0)) (gs (ix2 0 n)) (us (ix2 0 n)) := by
  rw [hV_eq, silu_apply, halfV_apply 0 _ x w s gs r n ⟨n.val, by have := n.isLt; omega⟩ (by show n.val = 0 + n.val; omega),
    halfV_apply 256 _ x w s us r n ⟨256 + n.val, by have := n.isLt; omega⟩ rfl]
  unfold hid
  rfl

/-- A narrowed entry is the entry. -/
theorem narrow_apply (h : FVec Ideal S512x256 .f32) (j : S512x256.Idx) : k0_pay1985 (F := Ideal) h j = h j := by
  unfold k0_pay1985
  exact kept_apply h _ _ _ rfl j bitsLt_bf16_f32

/-- A narrowed hidden entry is the entry. -/
theorem hB_apply (j : S512x256.Idx) : hB (F := Ideal) gs us x w s j = hV (F := Ideal) gs us x w s j := narrow_apply _ j

/-- The larger size of the two halves of a chunk's columns. -/
def twoV (h : FVec Ideal S512x256 .f32) : FVec Ideal S512x128 .f32 :=
  maximumf (absf (extractStridedSlice S512x128 ![0, 0] h slices_S512x256_o0_0_S512x128)) (absf (extractStridedSlice S512x128 ![0, 128] h slices_S512x256_o0_128_S512x128))

theorem max_apply {s : Shape} (a b : FVec Ideal s .f32) (j : s.Idx) : maximumf (F := Ideal) a b j = max (a j : EReal) (b j : EReal) := rfl

theorem twoV_apply (h : FVec Ideal S512x256 .f32) (r : Fin 512) (l : Fin 128) :
    twoV h (ix2 r l) = max (size (h (ix2 r ⟨l.val, by have := l.isLt; omega⟩))) (size (h (ix2 r ⟨128 + l.val, by have := l.isLt; omega⟩))) := by
  unfold twoV
  rw [max_apply, size_apply, size_apply, slice2_axis1_apply _ _ _ _ l ⟨l.val, by have := l.isLt; omega⟩ (by show l.val = 0 + l.val; omega),
    slice2_axis1_apply _ _ _ _ l ⟨128 + l.val, by have := l.isLt; omega⟩ rfl]

theorem mB_eq (j : BitVec 32) (p : Vec Ideal S512x128 .f32) : mB (F := Ideal) j gs us x w s p
    = Scalar.select (Scalar.cmpi .eq j 0#32) (twoV (hV (F := Ideal) gs us x w s))
        (maximumf (F := Ideal) (twoV (hV (F := Ideal) gs us x w s)) (shapeCast S512x128 (show FVec Ideal S512x128 .f32 from p) shapeCasts_S512x128_S512x128)) := rfl

/-- The largest sizes of a chunk at the first point. -/
theorem mB_zero (j : BitVec 32) (hj : Scalar.cmpi .eq j 0#32 = 1#1) (p : Vec Ideal S512x128 .f32) (i : S512x128.Idx) :
    mB (F := Ideal) j gs us x w s p i = twoV (hV (F := Ideal) gs us x w s) i := by
  rw [mB_eq, hj]
  rfl

/-- The largest sizes of a chunk at a later point. -/
theorem mB_later (j : BitVec 32) (hj : Scalar.cmpi .eq j 0#32 = 0#1) (p : Vec Ideal S512x128 .f32) (r : Fin 512) (l : Fin 128) :
    mB (F := Ideal) j gs us x w s p (ix2 r l) = max (twoV (hV (F := Ideal) gs us x w s) (ix2 r l) : EReal) (p (ix2 r l)) := by
  rw [mB_eq, hj]
  show maximumf (F := Ideal) _ _ (ix2 r l) = _
  rw [max_apply, shapeCast_apply _ shapeCasts_S512x128_S512x128 (ix2 r l) (ix2 r l) rfl]

end Chunk

end Cert.GateUpIdeal.Point

end
-- ==== Proof.GateUpValue.lean ====
/- The gate and up projection: the kernel's two result arrays after its run are the entries of `GateUpRows.lean`, and so are
   the reference's. -/
module

public import proofs.«01_k».proof.Proof.GateUpPoint

@[expose] public section

set_option maxRecDepth 16384

noncomputable section

namespace Cert.GateUpIdeal.Point

open Cert.GateUpIdeal Cert.GateUpIdeal.Gen Cert.GateUpIdeal.Rows Cert.GateUpIdeal.Named Cert.Rows
open Idealize.ShloMosaic Idealize.ShloMosaic.TcCoe Idealize.ShloMosaic.ValueIdx Idealize.SL.Sem
open Idealize.ShloMosaic.Pipeline (Dat)
open scoped BigOperators

/-! ## The results of a point, entry by entry -/

/-- Row `r` of chunk `n`. -/
def crow (n : Nat) (h : n < 8) (r : Fin 512) : Fin 4096 := ⟨512 * n + r.val, by have := r.isLt; omega⟩

section Entries
variable (i : grid0.Coords) (arg1 : Memref sig .tc .vmem S4096x3584 .fp8e4m3) (harg1 : arg1.IsWhole) (arg2 : Memref sig .tc .vmem S4096x1 .f32) (harg2 : arg2.IsWhole)
  (arg8 : Memref sig .tc .vmem S4096x128 .f32) (harg8 : arg8.IsWhole)
  (x0 : Vec Ideal S4096x3584 .fp8e4m3) (x1 : Vec Ideal S4096x1 .f32) (x7 : Vec Ideal S4096x128 .f32)
  (gs us : FVec Ideal S1x256 .f32) (w : Vec Ideal S3584x512 .fp8e4m3)

/-- A hidden entry from the weights of a point. -/
def ent (a : Fin 4096) (n : Fin 256) : EReal :=
  hid (∑ k : Fin 3584, x0 (ix2 a k) * w (ix2 k ⟨n.val, by have := n.isLt; omega⟩)) (∑ k : Fin 3584, x0 (ix2 a k) * w (ix2 k ⟨256 + n.val, by have := n.isLt; omega⟩))
    (x1 (ix2 a 0)) (gs (ix2 0 n)) (us (ix2 0 n))

/-- The larger size of the two entries of a lane. -/
def two (a : Fin 4096) (l : Fin 128) : EReal :=
  max (size (ent x0 x1 gs us w a ⟨l.val, by have := l.isLt; omega⟩)) (size (ent x0 x1 gs us w a ⟨128 + l.val, by have := l.isLt; omega⟩))

/-- The hidden entries of a point. -/
def entV : Vec Ideal S4096x256 .bf16 := fun y => ent x0 x1 gs us w (y 0) (y 1)

/-- The largest sizes of a point alone. -/
def twoW : Vec Ideal S4096x128 .f32 := fun y => two x0 x1 gs us w (y 0) (y 1)

/-- The largest sizes of a point and those before it. -/
def twoP : Vec Ideal S4096x128 .f32 := fun y => max (two x0 x1 gs us w (y 0) (y 1)) (x7 y : EReal)

theorem xld_apply (n : Nat) (h : n < 8) (r : Fin 512) (k : Fin 3584) : xld arg1 harg1 x0 n h (ix2 r k) = x0 (ix2 (crow n h r) k) := by
  unfold xld
  rw [View.readAt_eq_ld, harg1.read_unread]
  refine View.ld_unit_apply_of x0 _ _ _ _ _ fun a => ?_
  match a with
  | ⟨0, _⟩ => rfl
  | ⟨1, _⟩ => exact (Nat.zero_add _).symm

theorem rld_apply (n : Nat) (h : n < 8) (r : Fin 512) : rld arg2 harg2 x1 n h (ix2 r 0) = x1 (ix2 (crow n h r) 0) := by
  unfold rld
  rw [View.readAt_eq_ld, harg2.read_unread]
  refine View.ld_unit_apply_of x1 _ _ _ _ _ fun a => ?_
  match a with
  | ⟨0, _⟩ => rfl
  | ⟨1, _⟩ => exact (Nat.zero_add _).symm

theorem pld_apply (n : Nat) (h : n < 8) (r : Fin 512) (l : Fin 128) : pld arg8 harg8 x7 n h (ix2 r l) = x7 (ix2 (crow n h r) l) := by
  unfold pld
  rw [View.readAt_eq_ld, harg8.read_unread]
  refine View.ld_unit_apply_of x7 _ _ _ _ _ fun a => ?_
  match a with
  | ⟨0, _⟩ => rfl
  | ⟨1, _⟩ => exact (Nat.zero_add _).symm

theorem embH (n : Nat) (h : n < 8) (r : Fin 512) (l : Fin 256) :
    (Rect.unit (s := S4096x256) ![512 * n, 0] S512x256.size (inbC n 256 256 h (Nat.le_refl _))).emb (ix2 r l : S512x256.Idx) = (ix2 (crow n h r) l : S4096x256.Idx) := by
  funext a; apply Fin.ext
  refine (Rect.idx_unit_val _ _ _ _ a).trans ?_
  match a with
  | ⟨0, _⟩ => rfl
  | ⟨1, _⟩ => exact Nat.zero_add _

theorem embM (n : Nat) (h : n < 8) (r : Fin 512) (l : Fin 128) :
    (Rect.unit (s := S4096x128) ![512 * n, 0] S512x128.size (inbC n 128 128 h (Nat.le_refl _))).emb (ix2 r l : S512x128.Idx) = (ix2 (crow n h r) l : S4096x128.Idx) := by
  funext a; apply Fin.ext
  refine (Rect.idx_unit_val _ _ _ _ a).trans ?_
  match a with
  | ⟨0, _⟩ => rfl
  | ⟨1, _⟩ => exact Nat.zero_add _

/-- A hidden entry of a chunk is the entry of its row. -/
theorem chunk_apply (n : Nat) (h : n < 8) (r : Fin 512) (l : Fin 256) :
    hV (F := Ideal) gs us (xld arg1 harg1 x0 n h) w (rld arg2 harg2 x1 n h) (ix2 r l) = ent x0 x1 gs us w (crow n h r) l := by
  rw [hV_apply]
  unfold ent
  simp only [xld_apply, rld_apply]

theorem chunk_two (n : Nat) (h : n < 8) (r : Fin 512) (l : Fin 128) :
    twoV (hV (F := Ideal) gs us (xld arg1 harg1 x0 n h) w (rld arg2 harg2 x1 n h)) (ix2 r l) = two x0 x1 gs us w (crow n h r) l := by
  rw [twoV_apply, chunk_apply, chunk_apply]
  rfl

theorem agreeH : ∀ (n : Nat) (h : n ≤ 8), ∀ q ∈ storesH arg1 harg1 arg2 harg2 x0 x1 gs us w n h, ∀ z : q.1.shape.Idx, q.2 z = entV x0 x1 gs us w (q.1.emb z)
  | 0, _ => fun _ h => absurd h List.not_mem_nil
  | n + 1, h => by
    unfold storesH
    intro q hq
    rcases List.mem_cons.mp hq with rfl | hq
    · intro z
      obtain ⟨r, l, rfl⟩ : ∃ (r : Fin 512) (l : Fin 256), z = (ix2 r l : S512x256.Idx) := ⟨z 0, z 1, eq_ix2 z⟩
      rw [embH n h r l]
      exact (hB_apply gs us _ w _ (ix2 r l)).trans (chunk_apply arg1 harg1 arg2 harg2 x0 x1 gs us w n h r l)
    · exact agreeH n (by omega) q hq

theorem agreeM_first (hj : Scalar.cmpi .eq (BitVec.ofNat 32 (i 0).val) 0#32 = 1#1) :
    ∀ (n : Nat) (h : n ≤ 8), ∀ q ∈ storesM i arg1 harg1 arg2 harg2 arg8 harg8 x0 x1 x7 gs us w n h, ∀ z : q.1.shape.Idx, q.2 z = twoW x0 x1 gs us w (q.1.emb z)
  | 0, _ => fun _ h => absurd h List.not_mem_nil
  | n + 1, h => by
    unfold storesM
    intro q hq
    rcases List.mem_cons.mp hq with rfl | hq
    · intro z
      obtain ⟨r, l, rfl⟩ : ∃ (r : Fin 512) (l : Fin 128), z = (ix2 r l : S512x128.Idx) := ⟨z 0, z 1, eq_ix2 z⟩
      rw [embM n h r l]
      exact (mB_zero gs us _ w _ _ hj _ (ix2 r l)).trans (chunk_two arg1 harg1 arg2 harg2 x0 x1 gs us w n h r l)
    · exact agreeM_first hj n (by omega) q hq

theorem agreeM_later (hj : Scalar.cmpi .eq (BitVec.ofNat 32 (i 0).val) 0#32 = 0#1) :
    ∀ (n : Nat) (h : n ≤ 8), ∀ q ∈ storesM i arg1 harg1 arg2 harg2 arg8 harg8 x0 x1 x7 gs us w n h, ∀ z : q.1.shape.Idx, q.2 z = twoP x0 x1 x7 gs us w (q.1.emb z)
  | 0, _ => fun _ h => absurd h List.not_mem_nil
  | n + 1, h => by
    unfold storesM
    intro q hq
    rcases List.mem_cons.mp hq with rfl | hq
    · intro z
      obtain ⟨r, l, rfl⟩ : ∃ (r : Fin 512) (l : Fin 128), z = (ix2 r l : S512x128.Idx) := ⟨z 0, z 1, eq_ix2 z⟩
      rw [embM n h r l]
      refine (mB_later gs us _ w _ _ hj _ r l).trans ?_
      rw [chunk_two arg1 harg1 arg2 harg2 x0 x1 gs us w n h r l, pld_apply arg8 harg8 x7 n h r l]
      rfl
    · exact agreeM_later hj n (by omega) q hq

end Entries

/-! ## Where the blocks lie -/

variable (m : (ℓ : Loc nD τ sig) → Buf (Elt Ideal) ℓ) (ρ : Dev nD → PrngReg)

/-- Hidden column `n` of point `t`. -/
def fcol (t : Fin cfg0.N) (n : Fin 256) : Fin 9472 :=
  ⟨t.val * 256 + n.val, by have h := t.isLt; have hN : cfg0.N = 37 := N_0; have := n.isLt; omega⟩

/-- Column `n` of the first block of weights of point `t`. -/
def bcol0 (t : Fin cfg0.N) (n : Fin 256) : Fin 21248 :=
  ⟨(9 + 2 * t.val) * 256 + n.val, by have h := t.isLt; have hN : cfg0.N = 37 := N_0; have := n.isLt; omega⟩

/-- Column `n` of the second block of weights of point `t`. -/
def bcol1 (t : Fin cfg0.N) (n : Fin 256) : Fin 21248 :=
  ⟨(10 + 2 * t.val) * 256 + n.val, by have h := t.isLt; have hN : cfg0.N = 37 := N_0; have := n.isLt; omega⟩

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem emb0 (t : Fin cfg0.N) (j : S4096x3584.Idx) : ((cfg0.win 0).blk t).view.emb j = j := by
  obtain ⟨e0, e1⟩ := idx0 t
  funext a; apply Fin.ext
  match a with
  | ⟨0, _⟩ => show win0_0.index t (0 : Fin 2) * 4096 + 1 * (j 0).val = (j 0).val; omega
  | ⟨1, _⟩ => show win0_0.index t (1 : Fin 2) * 3584 + 1 * (j 1).val = (j 1).val; omega

theorem iblk0 (c : Dev nD) (t : Fin cfg0.N) : iblk m c 0 t = V m c main_arg0 := by
  funext j
  show V m c main_arg0 (((cfg0.win 0).blk t).view.emb j) = _
  rw [emb0]

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem emb1 (t : Fin cfg0.N) (j : S4096x1.Idx) : ((cfg0.win 1).blk t).view.emb j = j := by
  obtain ⟨e0, e1⟩ := idx1 t
  funext a; apply Fin.ext
  match a with
  | ⟨0, _⟩ => show win0_1.index t (0 : Fin 2) * 4096 + 1 * (j 0).val = (j 0).val; omega
  | ⟨1, _⟩ => show win0_1.index t (1 : Fin 2) * 1 + 1 * (j 1).val = (j 1).val; omega

theorem iblk1 (c : Dev nD) (t : Fin cfg0.N) : iblk m c 1 t = V m c main_arg1 := by
  funext j
  show V m c main_arg1 (((cfg0.win 1).blk t).view.emb j) = _
  rw [emb1]

theorem idx2 : ∀ t : Fin cfg0.N, win0_2.index t (0 : Fin 2) = 0 ∧ win0_2.index t (1 : Fin 2) = 9 + 2 * t.val :=
  (by decide +kernel : ∀ t : Fin grid0.N, win0_2.index t (0 : Fin 2) = 0 ∧ win0_2.index t (1 : Fin 2) = 9 + 2 * t.val)

theorem iblk2 (c : Dev nD) (t : Fin cfg0.N) (k : Fin 3584) (n : Fin 256) : iblk m c 2 t (ix2 k n : S3584x256.Idx) = V m c main_arg2 (ix2 k (bcol0 t n) : S3584x21248.Idx) := by
  obtain ⟨e0, e1⟩ := idx2 t
  refine congrArg (V m c main_arg2) (show ((cfg0.win 2).blk t).view.emb (ix2 k n : S3584x256.Idx) = (ix2 k (bcol0 t n) : S3584x21248.Idx) from ?_)
  funext a; apply Fin.ext
  match a with
  | ⟨0, _⟩ => show win0_2.index t (0 : Fin 2) * 3584 + 1 * k.val = k.val; omega
  | ⟨1, _⟩ => show win0_2.index t (1 : Fin 2) * 256 + 1 * n.val = (9 + 2 * t.val) * 256 + n.val; omega

theorem idx3 : ∀ t : Fin cfg0.N, win0_3.index t (0 : Fin 2) = 0 ∧ win0_3.index t (1 : Fin 2) = 10 + 2 * t.val :=
  (by decide +kernel : ∀ t : Fin grid0.N, win0_3.index t (0 : Fin 2) = 0 ∧ win0_3.index t (1 : Fin 2) = 10 + 2 * t.val)

theorem iblk3 (c : Dev nD) (t : Fin cfg0.N) (k : Fin 3584) (n : Fin 256) : iblk m c 3 t (ix2 k n : S3584x256.Idx) = V m c main_arg2 (ix2 k (bcol1 t n) : S3584x21248.Idx) := by
  obtain ⟨e0, e1⟩ := idx3 t
  refine congrArg (V m c main_arg2) (show ((cfg0.win 3).blk t).view.emb (ix2 k n : S3584x256.Idx) = (ix2 k (bcol1 t n) : S3584x21248.Idx) from ?_)
  funext a; apply Fin.ext
  match a with
  | ⟨0, _⟩ => show win0_3.index t (0 : Fin 2) * 3584 + 1 * k.val = k.val; omega
  | ⟨1, _⟩ => show win0_3.index t (1 : Fin 2) * 256 + 1 * n.val = (10 + 2 * t.val) * 256 + n.val; omega

theorem idx4 : ∀ t : Fin cfg0.N, win0_4.index t (0 : Fin 2) = 0 ∧ win0_4.index t (1 : Fin 2) = 9 + 2 * t.val :=
  (by decide +kernel : ∀ t : Fin grid0.N, win0_4.index t (0 : Fin 2) = 0 ∧ win0_4.index t (1 : Fin 2) = 9 + 2 * t.val)

theorem iblk4 (c : Dev nD) (t : Fin cfg0.N) (n : Fin 256) : iblk m c 4 t (ix2 (0 : Fin 1) n : S1x256.Idx) = V m c main_arg3 (ix2 (0 : Fin 1) (bcol0 t n) : S1x21248.Idx) := by
  obtain ⟨e0, e1⟩ := idx4 t
  refine congrArg (V m c main_arg3) (show ((cfg0.win 4).blk t).view.emb (ix2 (0 : Fin 1) n : S1x256.Idx) = (ix2 (0 : Fin 1) (bcol0 t n) : S1x21248.Idx) from ?_)
  funext a; apply Fin.ext
  match a with
  | ⟨0, _⟩ => show win0_4.index t (0 : Fin 2) * 1 + 1 * 0 = 0; omega
  | ⟨1, _⟩ => show win0_4.index t (1 : Fin 2) * 256 + 1 * n.val = (9 + 2 * t.val) * 256 + n.val; omega

theorem idx5 : ∀ t : Fin cfg0.N, win0_5.index t (0 : Fin 2) = 0 ∧ win0_5.index t (1 : Fin 2) = 10 + 2 * t.val :=
  (by decide +kernel : ∀ t : Fin grid0.N, win0_5.index t (0 : Fin 2) = 0 ∧ win0_5.index t (1 : Fin 2) = 10 + 2 * t.val)

theorem iblk5 (c : Dev nD) (t : Fin cfg0.N) (n : Fin 256) : iblk m c 5 t (ix2 (0 : Fin 1) n : S1x256.Idx) = V m c main_arg3 (ix2 (0 : Fin 1) (bcol1 t n) : S1x21248.Idx) := by
  obtain ⟨e0, e1⟩ := idx5 t
  refine congrArg (V m c main_arg3) (show ((cfg0.win 5).blk t).view.emb (ix2 (0 : Fin 1) n : S1x256.Idx) = (ix2 (0 : Fin 1) (bcol1 t n) : S1x21248.Idx) from ?_)
  funext a; apply Fin.ext
  match a with
  | ⟨0, _⟩ => show win0_5.index t (0 : Fin 2) * 1 + 1 * 0 = 0; omega
  | ⟨1, _⟩ => show win0_5.index t (1 : Fin 2) * 256 + 1 * n.val = (10 + 2 * t.val) * 256 + n.val; omega

theorem idx6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)

theorem emb6 (t : Fin cfg0.N) (r : Fin 4096) (n : Fin 256) :
    ((cfg0.win 6).blk t).view.emb (ix2 r n : S4096x256.Idx) = (ix2 r (fcol t n) : S4096x9472.Idx) := by
  obtain ⟨e0, e1⟩ := idx6 t
  funext a; apply Fin.ext
  match a with
  | ⟨0, _⟩ => show win0_6.index t (0 : Fin 2) * 4096 + 1 * r.val = r.val; omega
  | ⟨1, _⟩ => show win0_6.index t (1 : Fin 2) * 256 + 1 * n.val = t.val * 256 + n.val; omega

/-- Every index of the hidden array lies in the block of the point its column belongs to. -/
theorem covered6 (i : S4096x9472.Idx) : ∃ t : Fin cfg0.N, (cfg0.win 6).flush t = true ∧ i ∈ ((cfg0.win 6).blk t).view.set := by
  have h0 : (i 1).val < 9472 := (i 1).isLt
  have hN : cfg0.N = 37 := N_0
  have ht : (i 1).val / 256 < cfg0.N := by rw [hN]; omega
  have hi : i = (ix2 (i 0) (fcol ⟨(i 1).val / 256, ht⟩ ⟨(i 1).val % 256, Nat.mod_lt _ (by omega)⟩) : S4096x9472.Idx) := by
    refine Shape.idx_ext₂ rfl ?_
    show (i 1).val = (i 1).val / 256 * 256 + (i 1).val % 256
    omega
  refine ⟨⟨(i 1).val / 256, ht⟩, flush0_6 _, ?_⟩
  have e := hi.trans (emb6 ⟨(i 1).val / 256, ht⟩ (i 0) ⟨(i 1).val % 256, Nat.mod_lt _ (by omega)⟩).symm
  exact (congrArg (fun z => z ∈ ((cfg0.win 6).blk ⟨(i 1).val / 256, ht⟩).view.set) e).mpr (View.emb_mem_set _ _)

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem emb7 (t : Fin cfg0.N) (j : S4096x128.Idx) : ((cfg0.win 7).blk t).view.emb j = j := by
  obtain ⟨e0, e1⟩ := idx7 t
  funext a; apply Fin.ext
  match a with
  | ⟨0, _⟩ => show win0_7.index t (0 : Fin 2) * 4096 + 1 * (j 0).val = (j 0).val; omega
  | ⟨1, _⟩ => show win0_7.index t (1 : Fin 2) * 128 + 1 * (j 1).val = (j 1).val; omega

/-- The last point. -/
def last : Fin cfg0.N := ⟨36, by have hN : cfg0.N = 37 := N_0; omega⟩

/-- Every index of the array of largest sizes lies in the block that the last point writes. -/
theorem covered7 (i : S4096x128.Idx) : ∃ t : Fin cfg0.N, (cfg0.win 7).flush t = true ∧ i ∈ ((cfg0.win 7).blk t).view.set := by
  refine ⟨last, (flush0_7 last).mpr rfl, ?_⟩
  have e := (emb7 last i).symm
  exact (congrArg (fun z => z ∈ ((cfg0.win 7).blk last).view.set) e).mpr (View.emb_mem_set _ _)

/-! ## The weights and scales of a point, in the arrays -/

/-- A column of the blocks of a point that holds a gate. -/
theorem gcol_eq (t : Fin cfg0.N) (n : Fin 256) : gcol (fcol t n) = if h : n.val < 128 then bcol0 t ⟨2 * n.val, by omega⟩ else bcol1 t ⟨2 * (n.val - 128), by have := n.isLt; omega⟩ := by
  split
  · refine Fin.ext ?_
    show 2304 + 2 * (t.val * 256 + n.val) = (9 + 2 * t.val) * 256 + 2 * n.val
    omega
  · refine Fin.ext ?_
    show 2304 + 2 * (t.val * 256 + n.val) = (10 + 2 * t.val) * 256 + 2 * (n.val - 128)
    omega

/-- A column of the blocks of a point that holds an entry of the up projection. -/
theorem ucol_eq (t : Fin cfg0.N) (n : Fin 256) : ucol (fcol t n) = if h : n.val < 128 then bcol0 t ⟨2 * n.val + 1, by omega⟩ else bcol1 t ⟨2 * (n.val - 128) + 1, by have := n.isLt; omega⟩ := by
  split
  · refine Fin.ext ?_
    show 2304 + (2 * (t.val * 256 + n.val) + 1) = (9 + 2 * t.val) * 256 + (2 * n.val + 1)
    omega
  · refine Fin.ext ?_
    show 2304 + (2 * (t.val * 256 + n.val) + 1) = (10 + 2 * t.val) * 256 + (2 * (n.val - 128) + 1)
    omega

theorem wAt_gate (c : Dev nD) (t : Fin cfg0.N) (k : Fin 3584) (n : Fin 256) :
    wAt m c t (ix2 k ⟨n.val, by have := n.isLt; omega⟩) = V m c main_arg2 (ix2 k (gcol (fcol t n)) : S3584x21248.Idx) := by
  have hn := n.isLt
  unfold wAt
  rw [weights_apply, gcol_eq]
  by_cases h : n.val < 128
  · rw [dif_pos h, ← iblk2]
    unfold apart
    rw [if_pos (show n.val % 256 < 128 by omega)]
    exact congrArg (iblk m c 2 t) (Shape.idx_ext₂ rfl (by show 2 * (n.val % 128) + n.val / 256 = 2 * n.val; omega))
  · rw [dif_neg h, ← iblk3]
    unfold apart
    rw [if_neg (show ¬ n.val % 256 < 128 by omega)]
    exact congrArg (iblk m c 3 t) (Shape.idx_ext₂ rfl (by show 2 * (n.val % 128) + n.val / 256 = 2 * (n.val - 128); omega))

theorem wAt_up (c : Dev nD) (t : Fin cfg0.N) (k : Fin 3584) (n : Fin 256) :
    wAt m c t (ix2 k ⟨256 + n.val, by have := n.isLt; omega⟩) = V m c main_arg2 (ix2 k (ucol (fcol t n)) : S3584x21248.Idx) := by
  have hn := n.isLt
  unfold wAt
  rw [weights_apply, ucol_eq]
  by_cases h : n.val < 128
  · rw [dif_pos h, ← iblk2]
    unfold apart
    rw [if_pos (show (256 + n.val) % 256 < 128 by omega)]
    exact congrArg (iblk m c 2 t) (Shape.idx_ext₂ rfl (by show 2 * ((256 + n.val) % 128) + (256 + n.val) / 256 = 2 * n.val + 1; omega))
  · rw [dif_neg h, ← iblk3]
    unfold apart
    rw [if_neg (show ¬ (256 + n.val) % 256 < 128 by omega)]
    exact congrArg (iblk m c 3 t) (Shape.idx_ext₂ rfl (by show 2 * ((256 + n.val) % 128) + (256 + n.val) / 256 = 2 * (n.val - 128) + 1; omega))

theorem gsAt_apply (c : Dev nD) (t : Fin cfg0.N) (n : Fin 256) : gsAt m c t (ix2 0 n) = V m c main_arg3 (ix2 (0 : Fin 1) (gcol (fcol t n)) : S1x21248.Idx) := by
  unfold gsAt
  rw [gs_eq, beside_apply, gcol_eq]
  by_cases h : n.val < 128
  · rw [dif_pos h, dif_pos h, gate_scale, ← iblk4]
  · rw [dif_neg h, dif_neg h, gate_scale, ← iblk5]

theorem usAt_apply (c : Dev nD) (t : Fin cfg0.N) (n : Fin 256) : usAt m c t (ix2 0 n) = V m c main_arg3 (ix2 (0 : Fin 1) (ucol (fcol t n)) : S1x21248.Idx) := by
  unfold usAt
  rw [us_eq, beside_apply, ucol_eq]
  by_cases h : n.val < 128
  · rw [dif_pos h, dif_pos h, up_scale, ← iblk4]
  · rw [dif_neg h, dif_neg h, up_scale, ← iblk5]

/-! ## The results of a point, in the arrays -/

/-- A hidden entry of a point is the entry of its column. -/
theorem ent_eq (c : Dev nD) (t : Fin cfg0.N) (a : Fin 4096) (n : Fin 256) :
    ent (iblk m c 0 t) (iblk m c 1 t) (gsAt m c t) (usAt m c t) (wAt m c t) a n
      = hiddenAt (V m c main_arg0) (V m c main_arg1) (V m c main_arg2) (V m c main_arg3) a (fcol t n) := by
  unfold ent hiddenAt prod
  rw [iblk0, iblk1, gsAt_apply, usAt_apply]
  simp only [wAt_gate, wAt_up]

theorem hAt_apply (c : Dev nD) (t : Fin cfg0.N) (a : Fin 4096) (n : Fin 256) :
    hAt m c t (ix2 a n) = hiddenAt (V m c main_arg0) (V m c main_arg1) (V m c main_arg2) (V m c main_arg3) a (fcol t n) := by
  unfold hAt
  refine ((congrArg (fun L => View.canon L (ix2 a n : S4096x256.Idx)) (List.append_nil _).symm).trans
    (View.canon_append_of_pieces (entV _ _ _ _ _) [] _ (agreeH _ _ _ _ _ _ _ _ _ 8 _) _ (coverH _ _ _ _ _ _ _ _ _ _))).trans ?_
  exact ent_eq m c t a n

/-- The larger size of the two hidden entries of a lane at a point. -/
def pair (c : Dev nD) (a : Fin 4096) (l : Fin 128) (t : Fin cfg0.N) : EReal :=
  max (size (hiddenAt (V m c main_arg0) (V m c main_arg1) (V m c main_arg2) (V m c main_arg3) a (fcol t ⟨l.val, by have := l.isLt; omega⟩)))
    (size (hiddenAt (V m c main_arg0) (V m c main_arg1) (V m c main_arg2) (V m c main_arg3) a (fcol t ⟨128 + l.val, by have := l.isLt; omega⟩)))

theorem two_eq (c : Dev nD) (t : Fin cfg0.N) (a : Fin 4096) (l : Fin 128) :
    two (iblk m c 0 t) (iblk m c 1 t) (gsAt m c t) (usAt m c t) (wAt m c t) a l = pair m c a l t := by
  unfold two pair
  rw [ent_eq, ent_eq]

theorem first_word : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem mAt_zero (c : Dev nD) (t : Fin cfg0.N) (ht : t.val = 0) (p : Vec Ideal S4096x128 .f32) (a : Fin 4096) (l : Fin 128) :
    mAt m c t p (ix2 a l) = pair m c a l t := by
  unfold mAt
  refine ((congrArg (fun L => View.canon L (ix2 a l : S4096x128.Idx)) (List.append_nil _).symm).trans
    (View.canon_append_of_pieces (twoW _ _ _ _ _) [] _ (agreeM_first _ _ _ _ _ _ _ _ _ _ _ _ _ ((first_word t).trans (if_pos ht)) 8 _) _ (coverM _ _ _ _ _ _ _ _ _ _ _ _ _ _))).trans ?_
  exact two_eq m c t a l

theorem mAt_later (c : Dev nD) (t : Fin cfg0.N) (ht : t.val ≠ 0) (p : Vec Ideal S4096x128 .f32) (a : Fin 4096) (l : Fin 128) :
    mAt m c t p (ix2 a l) = max (pair m c a l t) (p (ix2 a l) : EReal) := by
  unfold mAt
  refine ((congrArg (fun L => View.canon L (ix2 a l : S4096x128.Idx)) (List.append_nil _).symm).trans
    (View.canon_append_of_pieces (twoP _ _ p _ _ _) [] _ (agreeM_later _ _ _ _ _ _ _ _ _ _ _ _ _ ((first_word t).trans (if_neg ht)) 8 _) _ (coverM _ _ _ _ _ _ _ _ _ _ _ _ _ _))).trans ?_
  exact congrArg (fun z : EReal => max z (p (ix2 a l) : EReal)) (two_eq m c t a l)

/-- A bound of the largest sizes after point `n` is a bound of the sizes of every point up to it. -/
theorem acc_le (c : Dev nD) (a : Fin 4096) (l : Fin 128) (b : EReal) : ∀ n : Nat, n < cfg0.N →
    ((acc m c n (ix2 a l) : EReal) ≤ b ↔ ∀ t : Fin cfg0.N, t.val ≤ n → pair m c a l t ≤ b)
  | 0, h => by
    unfold acc
    rw [mAt_zero m c _ rfl]
    refine ⟨fun hb t ht => ?_, fun hb => hb _ (Nat.le_refl _)⟩
    have : t = ⟨0, h⟩ := Fin.ext (Nat.le_zero.mp ht)
    rw [this]; exact hb
  | n + 1, h => by
    rw [acc, dif_pos h, mAt_later m c ⟨n + 1, h⟩ (Nat.succ_ne_zero n)]
    refine Iff.trans max_le_iff ?_
    rw [acc_le c a l b n (by omega)]
    refine ⟨fun ⟨h1, h2⟩ t ht => ?_, fun hb => ⟨hb _ (Nat.le_refl _), fun t ht => hb t (Nat.le_succ_of_le ht)⟩⟩
    rcases Nat.lt_or_eq_of_le ht with ht | ht
    · exact h2 t (Nat.lt_succ_iff.mp ht)
    · have : t = ⟨n + 1, h⟩ := Fin.ext ht
      rw [this]; exact h1

theorem bottom : Ideal.ofBits .f32 0xFF800000#32 = ⊥ := by simp [Ideal.ofBits, Ideal.ieee]

/-- The largest sizes after the last point. -/
theorem acc_last (c : Dev nD) (a : Fin 4096) (l : Fin 128) :
    acc m c 36 (ix2 a l) = hiddenMax (V m c main_arg0) (V m c main_arg1) (V m c main_arg2) (V m c main_arg3) a l := by
  have hN : cfg0.N = 37 := N_0
  have hl := l.isLt
  refine eq_of_forall_ge_iff fun b => ?_
  refine (acc_le m c a l b 36 (by omega)).trans ?_
  unfold hiddenMax
  rw [bottom]
  refine Iff.trans ?_ (Finset.fold_max_le b).symm
  constructor
  · refine fun hb => ⟨bot_le, fun g _ => ?_⟩
    have hg := g.isLt
    have ht : g.val / 2 < cfg0.N := by omega
    obtain ⟨h1, h2⟩ := max_le_iff.mp (hb ⟨g.val / 2, ht⟩ (by show g.val / 2 ≤ 36; omega))
    by_cases hp : g.val % 2 = 0
    · refine Eq.trans_le (congrArg (fun f => size (hiddenAt _ _ _ _ a f)) (Fin.ext ?_)) h1
      show g.val * 128 + l.val = g.val / 2 * 256 + l.val
      omega
    · refine Eq.trans_le (congrArg (fun f => size (hiddenAt _ _ _ _ a f)) (Fin.ext ?_)) h2
      show g.val * 128 + l.val = g.val / 2 * 256 + (128 + l.val)
      omega
  · refine fun ⟨_, hb⟩ t _ => ?_
    have ht := t.isLt
    refine max_le ?_ ?_
    · refine Eq.trans_le (congrArg (fun f => size (hiddenAt _ _ _ _ a f)) (Fin.ext ?_)) (hb ⟨2 * t.val, by omega⟩ (Finset.mem_univ _))
      show t.val * 256 + l.val = 2 * t.val * 128 + l.val
      omega
    · refine Eq.trans_le (congrArg (fun f => size (hiddenAt _ _ _ _ a f)) (Fin.ext ?_)) (hb ⟨2 * t.val + 1, by omega⟩ (Finset.mem_univ _))
      show t.val * 256 + (128 + l.val) = (2 * t.val + 1) * 128 + l.val
      omega

/-! ## The result arrays -/

/-- The hidden array. -/
def hiddenW (x : Vec Ideal S4096x3584 .fp8e4m3) (xs : Vec Ideal S4096x1 .f32) (w : Vec Ideal S3584x21248 .fp8e4m3) (ws : Vec Ideal S1x21248 .f32) : Vec Ideal S4096x9472 .bf16 :=
  fun i => hiddenAt x xs w ws (i 0) (i 1)

/-- The array of largest sizes. -/
def maxW (x : Vec Ideal S4096x3584 .fp8e4m3) (xs : Vec Ideal S4096x1 .f32) (w : Vec Ideal S3584x21248 .fp8e4m3) (ws : Vec Ideal S1x21248 .f32) : Vec Ideal S4096x128 .f32 :=
  fun i => hiddenMax x xs w ws (i 0) (i 1)

theorem flushed6_eq (c : Dev nD) (t : Fin cfg0.N) :
    (dats m 0 c).flushed 6 t = ((cfg0.win 6).blk t).view.read (Elt Ideal) (hiddenW (V m c main_arg0) (V m c main_arg1) (V m c main_arg2) (V m c main_arg3)) := by
  show (cfg0.win 6).cut (grid0.coords t) ((dats m 0 c).after 6 t) = _
  rw [after0_6]
  funext j
  obtain ⟨a, n, rfl⟩ : ∃ (a : Fin 4096) (n : Fin 256), j = (ix2 a n : S4096x256.Idx) := ⟨j 0, j 1, eq_ix2 j⟩
  show hAt m c t (ix2 a n) = hiddenW (V m c main_arg0) (V m c main_arg1) (V m c main_arg2) (V m c main_arg3) (((cfg0.win 6).blk t).view.emb (ix2 a n : S4096x256.Idx))
  rw [emb6]
  exact hAt_apply m c t a n

theorem flushed7_eq (c : Dev nD) (t : Fin cfg0.N) (hf : (cfg0.win 7).flush t = true) :
    (dats m 0 c).flushed 7 t = ((cfg0.win 7).blk t).view.read (Elt Ideal) (maxW (V m c main_arg0) (V m c main_arg1) (V m c main_arg2) (V m c main_arg3)) := by
  have hN : cfg0.N = 37 := N_0
  have ht : t.val = 36 := by have := (flush0_7 t).mp hf; have := t.isLt; omega
  show (cfg0.win 7).cut (grid0.coords t) ((dats m 0 c).after 7 t) = _
  rw [after0_7, ht]
  funext j
  obtain ⟨a, l, rfl⟩ : ∃ (a : Fin 4096) (l : Fin 128), j = (ix2 a l : S4096x128.Idx) := ⟨j 0, j 1, eq_ix2 j⟩
  show acc m c 36 (ix2 a l) = maxW (V m c main_arg0) (V m c main_arg1) (V m c main_arg2) (V m c main_arg3) (((cfg0.win 7).blk t).view.emb (ix2 a l : S4096x128.Idx))
  rw [emb7]
  exact acc_last m c a l

/-- The run of the kernel with its two result arrays named, the arguments unchanged. -/
theorem run : θ_run defs (onTc (τ := τ) (main (F := Ideal))) ⟨m, fun _ => 0, ρ⟩ fun r => ∀ c : Dev nD,
      r.2.mem ((c : Thread nD τ).loc main_v0_0) = hiddenW (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = maxW (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_main m ρ)
  refine ⟨((h c).1 6).trans (((dats m 0 c).arrAt_eq_of_cover 6 _ (fun t _ => flushed6_eq m c t) covered6).trans ?_),
    ((h c).1 7).trans (((dats m 0 c).arrAt_eq_of_cover 7 _ (fun t ht => flushed7_eq m c t ht) covered7).trans ?_),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 3).trans (((dats m 0 c).arrAt_in 3 rfl _).trans ((A_eq m c 3).trans (V_main_arg2 m c))),
    ((h c).1 5).trans (((dats m 0 c).arrAt_in 5 rfl _).trans ((A_eq m c 5).trans (V_main_arg3 m c)))⟩
  · rw [V_main_arg0, V_main_arg1, V_main_arg2, V_main_arg3]
  · rw [V_main_arg0, V_main_arg1, V_main_arg2, V_main_arg3]

end Cert.GateUpIdeal.Point

/-! ## The reference -/

namespace Cert.GateUpRefIdeal.Rows

open Cert.GateUpRefIdeal Cert.GateUpRefIdeal.Gen Idealize.ShloMosaic Idealize.ShloMosaic.ValueIdx

variable (x : Vec Ideal S4096x3584 .fp8e4m3) (xs : Vec Ideal S4096x1 .f32) (w : Vec Ideal S3584x21248 .fp8e4m3) (ws : Vec Ideal S1x21248 .f32)

theorem G4_eq : Value.G4 (F := Ideal) x xs w ws = Cert.GateUpIdeal.Point.hiddenW x xs w ws := by
  unfold Value.G4
  funext j
  obtain ⟨a, f, rfl⟩ : ∃ (a : Fin 4096) (f : Fin 9472), j = (ix2 a f : S4096x9472.Idx) := ⟨j 0, j 1, eq_ix2 j⟩
  exact pay2_apply x xs w ws a f

theorem G5_eq : Value.G5 (F := Ideal) x xs w ws = Cert.GateUpIdeal.Point.maxW x xs w ws := by
  unfold Value.G5
  funext j
  obtain ⟨a, l, rfl⟩ : ∃ (a : Fin 4096) (l : Fin 128), j = (ix2 a l : S4096x128.Idx) := ⟨j 0, j 1, eq_ix2 j⟩
  exact pay3_apply x xs w ws a l

end Cert.GateUpRefIdeal.Rows

/-! ## The claim -/

namespace Cert.Proof.GateUp

open Idealize.ShloMosaic Idealize.ShloMosaic.TcCoe Idealize.SL.Sem

/-- The kernel and the reference end with the same two arrays. -/
theorem algebraic : Cert.algebraic_GateUpIdeal_GateUpRefIdeal := by
  intro m ρ m' ρ' _ hagree
  refine ⟨_, _, Cert.GateUpIdeal.Point.run m ρ, ?_⟩
  refine (θ_run Cert.GateUpRefIdeal.defs _ _).mono (fun _ h c => ?_) (Cert.GateUpRefIdeal.Value.run (F := Ideal) m' ρ')
  obtain ⟨h4, h5, ha⟩ := h c
  obtain ⟨e0, e1, e2, e3⟩ := hagree c
  refine ⟨h4.trans ?_, h5.trans ?_, ha⟩
  · rw [Cert.GateUpRefIdeal.Rows.G4_eq, e0, e1, e2, e3]
  · rw [Cert.GateUpRefIdeal.Rows.G5_eq, e0, e1, e2, e3]

end Cert.Proof.GateUp

end
-- ==== Proof.DownRows.lean ====
/- The down projection kernel, row by row: what its body leaves in the three output blocks of a grid point, at an
   index, in terms of the row functions of `Rows.lean` applied to the rows of the input blocks. -/
module

public import proofs.«01_k».proof.Proof.Rows
public import proofs.«01_k».proof.Proof.Gen.DownIdeal.Value

@[expose] public section

set_option maxRecDepth 16384

noncomputable section

namespace Cert.DownIdeal.Rows

open Cert.DownIdeal Cert.DownIdeal.Gen Idealize.ShloMosaic Idealize.ShloMosaic.TcCoe Idealize.ShloMosaic.ValueIdx Cert.Quant Cert.Rows
open scoped BigOperators

section Payloads

variable (h : Vec Ideal S256x9472 .bf16) (am : Vec Ideal S256x128 .f32) (w : Vec Ideal S9472x3584 .fp8e4m3)
  (ws : Vec Ideal S1x3584 .f32) (x : Vec Ideal S256x3584 .bf16)

/-- The number whose exponent field is searched for. -/
theorem t_apply (r : Fin 256) (z : Fin 1) : k0_pay2 (F := Ideal) am (ix2 r z) = rowT fun k : Fin 128 => am (ix2 r k) :=
  (Cert.Rows.t_apply _ _).trans (congrArg (fun u : EReal => u * Ideal.ofBits .f32 0x3B124925#32) (rowmax_apply am _ _ _ _ _ r z))

/-- The scale of the block. -/
def scaleB : FVec Ideal S256x1 .f32 :=
  k0_pay9 (k0_pay5 (k0_pay2 am) (k0_pay3 am)) (k0_pay6 (k0_pay2 am) (k0_pay3 am)) k0_pay7

/-- The codes of the block. -/
def codeB : FVec Ideal S256x9472 .fp8e4m3 :=
  k0_pay10 (k0_pay5 (k0_pay2 am) (k0_pay3 am)) (k0_pay6 (k0_pay2 am) (k0_pay3 am)) k0_pay7 h

/-- The result of the block. -/
def yB : FVec Ideal S256x3584 .bf16 :=
  k0_pay1 (k0_pay11 (codeB h am) w)
    (k0_pay12 (k0_pay5 (k0_pay2 am) (k0_pay3 am)) (k0_pay6 (k0_pay2 am) (k0_pay3 am)) k0_pay7) ws x

/-- The exponent the printed steps find is the search's. -/
theorem expo_eq (t : FVec Ideal S256x1 .f32) (f : IVec S256x1 32)
    (hf : f = vstep t 16#32 (vstep t 32#32 (vstep t 64#32 (vstep t 128#32 (broadcast S256x1 0#32))))) :
    k0_pay8 (k0_pay5 t f) (k0_pay6 t f) k0_pay7 = vexpo (vfield t) := by
  have e : k0_pay4 t f = vfield t := by rw [hf]; rfl
  unfold k0_pay8 k0_pay5 k0_pay6 k0_pay7
  simp only [e]
  rfl

theorem expoB : k0_pay8 (k0_pay5 (k0_pay2 am) (k0_pay3 am)) (k0_pay6 (k0_pay2 am) (k0_pay3 am)) k0_pay7 = vexpo (vfield (k0_pay2 am)) :=
  expo_eq _ _ rfl

/-- The scale. -/
theorem scale_apply (r : Fin 256) (z : Fin 1) : scaleB am (ix2 r z) = rowScale fun k : Fin 128 => am (ix2 r k) := by
  have e : scaleB am = vkscale (k0_pay2 am) := by
    unfold scaleB k0_pay9
    simp only [expoB]
    rfl
  rw [e, vkscale_apply, t_apply, rowScale]

/-- The codes. -/
theorem code_apply (r : Fin 256) (c : Fin 9472) :
    codeB h am (ix2 r c) = rowCode (fun k : Fin 128 => am (ix2 r k)) (h (ix2 r c)) := by
  unfold codeB
  simp only [k0_pay10, expoB, lit, lit16, truncf_apply, minimumf_apply, maximumf_apply, mulf_apply, broadcast_apply, extf_apply]
  rw [bcol_apply]
  simp only [truncf_apply]
  have e : vkinv (k0_pay2 am) (ix2 r 0) = rinv ln2 (rowT fun k : Fin 128 => am (ix2 r k)) := by rw [vkinv_apply, t_apply]
  rw [rowCode, clip, ← e]
  rfl

/-- The result. -/
theorem y_apply (r : Fin 256) (c : Fin 3584) :
    yB h am w ws x (ix2 r c)
      = x (ix2 r c) + rowDot (fun k : Fin 128 => am (ix2 r k)) (fun k : Fin 9472 => h (ix2 r k)) (fun k : Fin 9472 => w (ix2 k c)) (ws (ix2 0 c)) := by
  unfold rowDot yB k0_pay1 k0_pay11 k0_pay12
  dsimp only
  simp only [truncf_apply, addf_apply, mulf_apply, extf_apply, matmul, shapeCast_self]
  rw [bcol_apply, brow_apply, show dot_S256x9472_S9472x3584_S256x3584_1_0_0_1_n_n = DotDims.plain 256 9472 3584 from rfl]
  erw [dot_apply]
  rw [← scale_apply am r 0]
  simp only [code_apply]
  rfl

end Payloads

/-! ## The output blocks -/

theorem hz : (![0, 0] : Fin 2 → Nat) = fun _ => 0 := funext fun a => by fin_cases a <;> rfl

section Blocks

variable (c : Dev nD) (i : grid0.Coords) (arg1 : Memref sig .tc .vmem S256x9472 .bf16) (harg1 : arg1.IsWhole)
  (arg2 : Memref sig .tc .vmem S256x128 .f32) (harg2 : arg2.IsWhole) (arg3 : Memref sig .tc .vmem S9472x3584 .fp8e4m3) (harg3 : arg3.IsWhole)
  (arg4 : Memref sig .tc .vmem S1x3584 .f32) (harg4 : arg4.IsWhole) (arg5 : Memref sig .tc .vmem S256x3584 .bf16) (harg5 : arg5.IsWhole)
  (arg6 : Memref sig .tc .vmem S256x3584 .bf16) (harg6 : arg6.IsWhole) (arg7 : Memref sig .tc .vmem S256x9472 .fp8e4m3) (harg7 : arg7.IsWhole)
  (arg8 : Memref sig .tc .vmem S256x1 .f32) (harg8 : arg8.IsWhole)
  (x0 : Vec Ideal S256x9472 .bf16) (x1 : Vec Ideal S256x128 .f32) (x2 : Vec Ideal S9472x3584 .fp8e4m3) (x3 : Vec Ideal S1x3584 .f32) (x4 : Vec Ideal S256x3584 .bf16)

/-- The scale's block. -/
theorem out7 : out0_A_7 c i arg1 harg1 arg2 harg2 arg3 harg3 arg4 harg4 arg5 harg5 arg6 harg6 arg7 harg7 arg8 harg8 x0 x1 x2 x3 x4 = scaleB x1 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg2.read_unread, View.ld_unit_zero (S := S256x128) hz]
  rfl

/-- The codes' block. -/
theorem out6 : out0_A_6 c i arg1 harg1 arg2 harg2 arg3 harg3 arg4 harg4 arg5 harg5 arg6 harg6 arg7 harg7 arg8 harg8 x0 x1 x2 x3 x4 = codeB x0 x1 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg1.read_unread, harg2.read_unread, View.ld_unit_zero (S := S256x9472) hz, View.ld_unit_zero (S := S256x128) hz]
  rfl

/-- The result's block. -/
theorem out5 : out0_A_5 c i arg1 harg1 arg2 harg2 arg3 harg3 arg4 harg4 arg5 harg5 arg6 harg6 arg7 harg7 arg8 harg8 x0 x1 x2 x3 x4 = yB x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S256x9472) hz, View.ld_unit_zero (S := S256x128) hz, View.ld_unit_zero (S := S9472x3584) hz, View.ld_unit_zero (S := S1x3584) hz, View.ld_unit_zero (S := S256x3584) hz, View.readCov_unit_zero (S := S256x9472) _ hz]
  rfl

end Blocks

end Cert.DownIdeal.Rows

end
-- ==== Proof.DownRefRows.lean ====
/- The reference of the down projection, row by row: its three results at an index are the row functions of
   `Rows.lean`. -/
module

public import proofs.«01_k».proof.Proof.Rows
public import proofs.«01_k».proof.Proof.Gen.DownRefIdeal.Value

@[expose] public section

set_option maxRecDepth 16384

noncomputable section

namespace Cert.DownRefIdeal.Rows

open Cert.DownRefIdeal Cert.DownRefIdeal.Gen Idealize.ShloMosaic Idealize.ShloMosaic.ValueIdx Cert.Quant Cert.Rows
open scoped BigOperators

variable (h : Vec Ideal S4096x9472 .bf16) (am : Vec Ideal S4096x128 .f32) (w : Vec Ideal S9472x3584 .fp8e4m3)
  (ws : Vec Ideal S1x3584 .f32) (x : Vec Ideal S4096x3584 .bf16)

/-- The named constant is the natural logarithm of two. -/
theorem log2_eq : (Named.named (F := Ideal) κ "log2" 0x3F317218#32 : Ideal .f32) = ln2 :=
  IdealRules.named_const.ideal_named_scalar _ _ _ _ rfl

/-- The number whose binary exponent is taken. -/
def t : FVec Ideal S4096x1 .f32 :=
  mulf (shapeCast S4096x1 (multiReduction .maximumf [1] S4096 am 0xFF800000#32 reduces_S4096x128_S4096 (.inl rfl) rfl) shapeCasts_S4096_S4096x1)
    (broadcast S4096x1 (Scalar.ofBits (F := Ideal) .f32 0x3B124925#32))

theorem t_apply (r : Fin 4096) (z : Fin 1) : t am (ix2 r z) = rowT fun k : Fin 128 => am (ix2 r k) :=
  (Cert.Rows.t_apply _ _).trans (congrArg (fun u : EReal => u * Ideal.ofBits .f32 0x3B124925#32) (rowmax_apply am _ _ _ _ _ r z))

/-- The exponent. -/
theorem e_apply (r : Fin 4096) (z : Fin 1) : k0_pay2 (F := Ideal) am (ix2 r z) = rexpo ln2 (rowT fun k : Fin 128 => am (ix2 r k)) := by
  rw [← t_apply am r z, ← vrexpo_apply]
  simp only [k0_pay2, log2_eq, lit, t]

/-- The scale. -/
theorem scale_apply (r : Fin 4096) (z : Fin 1) : k0_pay3 (F := Ideal) am (ix2 r z) = rowScale fun k : Fin 128 => am (ix2 r k) := by
  simp only [k0_pay3, lit]
  exact vrscale_apply _ _ _ (e_apply am r z)

/-- The codes. -/
theorem code_apply (r : Fin 4096) (c : Fin 9472) :
    k0_pay4 (F := Ideal) h am (ix2 r c) = rowCode (fun k : Fin 128 => am (ix2 r k)) (h (ix2 r c)) := by
  have e : k0_pay4 (F := Ideal) h am = truncf (F := Ideal) .fp8e4m3 (minimumf (broadcast S4096x9472 (Ideal.ofBits .f32 0x43E00000#32)) (maximumf (broadcast S4096x9472 (Ideal.ofBits .f32 0xC3E00000#32))
      (mulf (extf .f32 h bitsLt_bf16_f32) (broadcastTo S4096x9472 (select (cmpf .ogt (k0_pay2 am) (broadcast S4096x1 (Ideal.ofBits .f32 0x42FC0000#32))) (broadcast S4096x1 (Ideal.ofBits .f32 0x00000000#32))
        (exp2 (F := Ideal) (subf (broadcast S4096x1 (Ideal.ofBits .f32 0x00000000#32)) (k0_pay2 am)))) broadcasts_S4096x1_S4096x9472)))) bitsLt_fp8e4m3_f32 := rfl
  rw [e, vcode_apply, bcol_apply, vrinv_apply _ _ _ (e_apply am r 0), extf_apply, rowCode]

/-- The result. -/
theorem y_apply (r : Fin 4096) (c : Fin 3584) :
    k0_pay1 (F := Ideal) (k0_pay3 am) (k0_pay4 h am) w ws x (ix2 r c)
      = x (ix2 r c) + rowDot (fun k : Fin 128 => am (ix2 r k)) (fun k : Fin 9472 => h (ix2 r k)) (fun k : Fin 9472 => w (ix2 k c)) (ws (ix2 0 c)) := by
  unfold rowDot k0_pay1
  dsimp only
  simp only [truncf_apply, addf_apply, mulf_apply, extf_apply, matmul]
  rw [bcol_apply, brow_apply, show dot_S4096x9472_S9472x3584_S4096x3584_1_0_0_1_n_n = DotDims.plain 4096 9472 3584 from rfl]
  erw [dot_apply]
  simp only [scale_apply, code_apply]

end Cert.DownRefIdeal.Rows

end
-- ==== Proof.DownValue.lean ====
/- The down projection: the kernel's three result arrays after its run are the row functions of `Rows.lean` applied to
   the rows of the argument arrays, and so are the reference's. -/
module

public import proofs.«01_k».proof.Defs
public import proofs.«01_k».proof.Proof.DownRows
public import proofs.«01_k».proof.Proof.DownRefRows

@[expose] public section

set_option maxRecDepth 16384

noncomputable section

namespace Cert.DownIdeal.Rows

open Cert.DownIdeal Cert.DownIdeal.Gen Idealize.ShloMosaic Idealize.ShloMosaic.TcCoe Idealize.ShloMosaic.ValueIdx Idealize.SL.Sem Cert.Quant Cert.Rows
open Idealize.ShloMosaic.Pipeline (Dat)
open scoped BigOperators

/-! ## The results on whole arrays -/

/-- The scales. -/
def scaleW (am : Vec Ideal S4096x128 .f32) : Vec Ideal S4096x1 .f32 := fun i => rowScale fun k : Fin 128 => am (ix2 (i 0) k)

/-- The codes. -/
def codeW (h : Vec Ideal S4096x9472 .bf16) (am : Vec Ideal S4096x128 .f32) : Vec Ideal S4096x9472 .fp8e4m3 :=
  fun i => rowCode (fun k : Fin 128 => am (ix2 (i 0) k)) (h i)

/-- The result. -/
def yW (h : Vec Ideal S4096x9472 .bf16) (am : Vec Ideal S4096x128 .f32) (w : Vec Ideal S9472x3584 .fp8e4m3) (ws : Vec Ideal S1x3584 .f32)
    (x : Vec Ideal S4096x3584 .bf16) : Vec Ideal S4096x3584 .bf16 :=
  fun i => (x i + rowDot (fun k : Fin 128 => am (ix2 (i 0) k)) (fun k : Fin 9472 => h (ix2 (i 0) k)) (fun k : Fin 9472 => w (ix2 k (i 1))) (ws (ix2 0 (i 1))) : EReal)

/-! ## Where the blocks lie -/

variable (m : (ℓ : Loc nD τ sig) → Buf (Elt Ideal) ℓ) (ρ : Dev nD → PrngReg)

/-- Row `r` of the block of point `t`. -/
def row (t : Fin cfg0.N) (r : Fin 256) : Fin 4096 :=
  ⟨t.val * 256 + r.val, by have h := t.isLt; have hN : cfg0.N = 16 := N_0; have := r.isLt; omega⟩

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (r : Fin 256) (k : Fin 9472) :
    ((cfg0.win 0).blk t).view.emb (ix2 r k : S256x9472.Idx) = (ix2 (row t r) k : S4096x9472.Idx) := by
  obtain ⟨e0, e1⟩ := idx0 t
  funext a; apply Fin.ext
  match a with
  | ⟨0, _⟩ => show win0_0.index t (0 : Fin 2) * 256 + 1 * r.val = t.val * 256 + r.val; omega
  | ⟨1, _⟩ => show win0_0.index t (1 : Fin 2) * 9472 + 1 * k.val = k.val; omega

theorem iblk0 (c : Dev nD) (t : Fin cfg0.N) (r : Fin 256) (k : Fin 9472) :
    iblk m c 0 t (ix2 r k : S256x9472.Idx) = V m c main_arg0 (ix2 (row t r) k : S4096x9472.Idx) := by
  show V m c main_arg0 (((cfg0.win 0).blk t).view.emb (ix2 r k : S256x9472.Idx)) = _
  rw [emb0]

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem emb1 (t : Fin cfg0.N) (r : Fin 256) (k : Fin 128) :
    ((cfg0.win 1).blk t).view.emb (ix2 r k : S256x128.Idx) = (ix2 (row t r) k : S4096x128.Idx) := by
  obtain ⟨e0, e1⟩ := idx1 t
  funext a; apply Fin.ext
  match a with
  | ⟨0, _⟩ => show win0_1.index t (0 : Fin 2) * 256 + 1 * r.val = t.val * 256 + r.val; omega
  | ⟨1, _⟩ => show win0_1.index t (1 : Fin 2) * 128 + 1 * k.val = k.val; omega

theorem iblk1 (c : Dev nD) (t : Fin cfg0.N) (r : Fin 256) (k : Fin 128) :
    iblk m c 1 t (ix2 r k : S256x128.Idx) = V m c main_arg1 (ix2 (row t r) k : S4096x128.Idx) := by
  show V m c main_arg1 (((cfg0.win 1).blk t).view.emb (ix2 r k : S256x128.Idx)) = _
  rw [emb1]

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem emb2 (t : Fin cfg0.N) (j : S9472x3584.Idx) : ((cfg0.win 2).blk t).view.emb j = j := by
  obtain ⟨e0, e1⟩ := idx2 t
  funext a; apply Fin.ext
  match a with
  | ⟨0, _⟩ => show win0_2.index t (0 : Fin 2) * 9472 + 1 * (j 0).val = (j 0).val; omega
  | ⟨1, _⟩ => show win0_2.index t (1 : Fin 2) * 3584 + 1 * (j 1).val = (j 1).val; omega

theorem iblk2 (c : Dev nD) (t : Fin cfg0.N) : iblk m c 2 t = V m c main_arg2 := by
  funext j
  show V m c main_arg2 (((cfg0.win 2).blk t).view.emb j) = _
  rw [emb2]

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem emb3 (t : Fin cfg0.N) (j : S1x3584.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 3584 + 1 * (j 1).val = (j 1).val; omega

theorem iblk3 (c : Dev nD) (t : Fin cfg0.N) : iblk m c 3 t = V m c main_arg3 := by
  funext j
  show V m c main_arg3 (((cfg0.win 3).blk t).view.emb j) = _
  rw [emb3]

theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem emb4 (t : Fin cfg0.N) (r : Fin 256) (k : Fin 3584) :
    ((cfg0.win 4).blk t).view.emb (ix2 r k : S256x3584.Idx) = (ix2 (row t r) k : S4096x3584.Idx) := by
  obtain ⟨e0, e1⟩ := idx4 t
  funext a; apply Fin.ext
  match a with
  | ⟨0, _⟩ => show win0_4.index t (0 : Fin 2) * 256 + 1 * r.val = t.val * 256 + r.val; omega
  | ⟨1, _⟩ => show win0_4.index t (1 : Fin 2) * 3584 + 1 * k.val = k.val; omega

theorem iblk4 (c : Dev nD) (t : Fin cfg0.N) (r : Fin 256) (k : Fin 3584) :
    iblk m c 4 t (ix2 r k : S256x3584.Idx) = V m c main_arg4 (ix2 (row t r) k : S4096x3584.Idx) := by
  show V m c main_arg4 (((cfg0.win 4).blk t).view.emb (ix2 r k : S256x3584.Idx)) = _
  rw [emb4]

theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem emb5 (t : Fin cfg0.N) (r : Fin 256) (k : Fin 3584) :
    ((cfg0.win 5).blk t).view.emb (ix2 r k : S256x3584.Idx) = (ix2 (row t r) k : S4096x3584.Idx) := by
  obtain ⟨e0, e1⟩ := idx5 t
  funext a; apply Fin.ext
  match a with
  | ⟨0, _⟩ => show win0_5.index t (0 : Fin 2) * 256 + 1 * r.val = t.val * 256 + r.val; omega
  | ⟨1, _⟩ => show win0_5.index t (1 : Fin 2) * 3584 + 1 * k.val = k.val; omega

/-- Every index of result array 5 lies in the block of the point its row belongs to. -/
theorem covered5 (i : S4096x3584.Idx) : ∃ t : Fin cfg0.N, (cfg0.win 5).flush t = true ∧ i ∈ ((cfg0.win 5).blk t).view.set := by
  have h0 : (i 0).val < 4096 := (i 0).isLt
  have hN : cfg0.N = 16 := N_0
  have ht : (i 0).val / 256 < cfg0.N := by rw [hN]; omega
  have hi : i = (ix2 (row ⟨(i 0).val / 256, ht⟩ ⟨(i 0).val % 256, Nat.mod_lt _ (by omega)⟩) (i 1) : S4096x3584.Idx) := by
    refine Shape.idx_ext₂ ?_ rfl
    show (i 0).val = (i 0).val / 256 * 256 + (i 0).val % 256
    omega
  refine ⟨⟨(i 0).val / 256, ht⟩, flush0_5 _, ?_⟩
  have e := hi.trans (emb5 ⟨(i 0).val / 256, ht⟩ ⟨(i 0).val % 256, Nat.mod_lt _ (by omega)⟩ (i 1)).symm
  exact (congrArg (fun z => z ∈ ((cfg0.win 5).blk ⟨(i 0).val / 256, ht⟩).view.set) e).mpr (View.emb_mem_set _ _)

theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

theorem emb6 (t : Fin cfg0.N) (r : Fin 256) (k : Fin 9472) :
    ((cfg0.win 6).blk t).view.emb (ix2 r k : S256x9472.Idx) = (ix2 (row t r) k : S4096x9472.Idx) := by
  obtain ⟨e0, e1⟩ := idx6 t
  funext a; apply Fin.ext
  match a with
  | ⟨0, _⟩ => show win0_6.index t (0 : Fin 2) * 256 + 1 * r.val = t.val * 256 + r.val; omega
  | ⟨1, _⟩ => show win0_6.index t (1 : Fin 2) * 9472 + 1 * k.val = k.val; omega

/-- Every index of result array 6 lies in the block of the point its row belongs to. -/
theorem covered6 (i : S4096x9472.Idx) : ∃ t : Fin cfg0.N, (cfg0.win 6).flush t = true ∧ i ∈ ((cfg0.win 6).blk t).view.set := by
  have h0 : (i 0).val < 4096 := (i 0).isLt
  have hN : cfg0.N = 16 := N_0
  have ht : (i 0).val / 256 < cfg0.N := by rw [hN]; omega
  have hi : i = (ix2 (row ⟨(i 0).val / 256, ht⟩ ⟨(i 0).val % 256, Nat.mod_lt _ (by omega)⟩) (i 1) : S4096x9472.Idx) := by
    refine Shape.idx_ext₂ ?_ rfl
    show (i 0).val = (i 0).val / 256 * 256 + (i 0).val % 256
    omega
  refine ⟨⟨(i 0).val / 256, ht⟩, flush0_6 _, ?_⟩
  have e := hi.trans (emb6 ⟨(i 0).val / 256, ht⟩ ⟨(i 0).val % 256, Nat.mod_lt _ (by omega)⟩ (i 1)).symm
  exact (congrArg (fun z => z ∈ ((cfg0.win 6).blk ⟨(i 0).val / 256, ht⟩).view.set) e).mpr (View.emb_mem_set _ _)

theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

theorem emb7 (t : Fin cfg0.N) (r : Fin 256) (k : Fin 1) :
    ((cfg0.win 7).blk t).view.emb (ix2 r k : S256x1.Idx) = (ix2 (row t r) k : S4096x1.Idx) := by
  obtain ⟨e0, e1⟩ := idx7 t
  funext a; apply Fin.ext
  match a with
  | ⟨0, _⟩ => show win0_7.index t (0 : Fin 2) * 256 + 1 * r.val = t.val * 256 + r.val; omega
  | ⟨1, _⟩ => show win0_7.index t (1 : Fin 2) * 1 + 1 * k.val = k.val; omega

/-- Every index of result array 7 lies in the block of the point its row belongs to. -/
theorem covered7 (i : S4096x1.Idx) : ∃ t : Fin cfg0.N, (cfg0.win 7).flush t = true ∧ i ∈ ((cfg0.win 7).blk t).view.set := by
  have h0 : (i 0).val < 4096 := (i 0).isLt
  have hN : cfg0.N = 16 := N_0
  have ht : (i 0).val / 256 < cfg0.N := by rw [hN]; omega
  have hi : i = (ix2 (row ⟨(i 0).val / 256, ht⟩ ⟨(i 0).val % 256, Nat.mod_lt _ (by omega)⟩) (i 1) : S4096x1.Idx) := by
    refine Shape.idx_ext₂ ?_ rfl
    show (i 0).val = (i 0).val / 256 * 256 + (i 0).val % 256
    omega
  refine ⟨⟨(i 0).val / 256, ht⟩, flush0_7 _, ?_⟩
  have e := hi.trans (emb7 ⟨(i 0).val / 256, ht⟩ ⟨(i 0).val % 256, Nat.mod_lt _ (by omega)⟩ (i 1)).symm
  exact (congrArg (fun z => z ∈ ((cfg0.win 7).blk ⟨(i 0).val / 256, ht⟩).view.set) e).mpr (View.emb_mem_set _ _)

/-! ## What each point writes back -/

theorem flushed7_eq (c : Dev nD) (t : Fin cfg0.N) :
    (dats m 0 c).flushed 7 t = ((cfg0.win 7).blk t).view.read (Elt Ideal) (scaleW (V m c main_arg1)) := by
  rw [Value.flushed7_A, out7]
  funext j
  obtain ⟨r, k, rfl⟩ : ∃ (r : Fin 256) (k : Fin 1), j = (ix2 r k : S256x1.Idx) := ⟨j 0, j 1, eq_ix2 j⟩
  show scaleB (iblk m c 1 t) (ix2 r k) = scaleW (V m c main_arg1) (((cfg0.win 7).blk t).view.emb (ix2 r k : S256x1.Idx))
  rw [emb7, scale_apply]
  simp only [iblk1]
  rfl

theorem flushed6_eq (c : Dev nD) (t : Fin cfg0.N) :
    (dats m 0 c).flushed 6 t = ((cfg0.win 6).blk t).view.read (Elt Ideal) (codeW (V m c main_arg0) (V m c main_arg1)) := by
  rw [Value.flushed6_A, out6]
  funext j
  obtain ⟨r, k, rfl⟩ : ∃ (r : Fin 256) (k : Fin 9472), j = (ix2 r k : S256x9472.Idx) := ⟨j 0, j 1, eq_ix2 j⟩
  show codeB (iblk m c 0 t) (iblk m c 1 t) (ix2 r k) = codeW (V m c main_arg0) (V m c main_arg1) (((cfg0.win 6).blk t).view.emb (ix2 r k : S256x9472.Idx))
  rw [emb6, code_apply]
  simp only [iblk0, iblk1]
  rfl

theorem flushed5_eq (c : Dev nD) (t : Fin cfg0.N) :
    (dats m 0 c).flushed 5 t
      = ((cfg0.win 5).blk t).view.read (Elt Ideal) (yW (V m c main_arg0) (V m c main_arg1) (V m c main_arg2) (V m c main_arg3) (V m c main_arg4)) := by
  rw [Value.flushed5_A, out5]
  funext j
  obtain ⟨r, k, rfl⟩ : ∃ (r : Fin 256) (k : Fin 3584), j = (ix2 r k : S256x3584.Idx) := ⟨j 0, j 1, eq_ix2 j⟩
  show yB (iblk m c 0 t) (iblk m c 1 t) (iblk m c 2 t) (iblk m c 3 t) (iblk m c 4 t) (ix2 r k)
    = yW (V m c main_arg0) (V m c main_arg1) (V m c main_arg2) (V m c main_arg3) (V m c main_arg4) (((cfg0.win 5).blk t).view.emb (ix2 r k : S256x3584.Idx))
  rw [emb5, y_apply]
  simp only [iblk0, iblk1, iblk2, iblk3, iblk4]
  rfl

/-! ## The run -/

/-- The run of the kernel with its three result arrays named, the arguments unchanged. -/
theorem run : θ_run defs (onTc (τ := τ) (main (F := Ideal))) ⟨m, fun _ => 0, ρ⟩ fun r => ∀ c : Dev nD,
      r.2.mem ((c : Thread nD τ).loc main_v0_0) = yW (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = codeW (m ((c : Thread nD τ).loc main_arg0)) (m ((c : Thread nD τ).loc main_arg1))
      ∧ r.2.mem ((c : Thread nD τ).loc main_v0_2) = scaleW (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run_blocks m ρ)
  obtain ⟨h5, h6, h7, ha⟩ := h c
  refine ⟨h5.trans (((dats m 0 c).arrAt_eq_of_cover 5 _ (fun t _ => flushed5_eq m c t) covered5).trans ?_),
    h6.trans (((dats m 0 c).arrAt_eq_of_cover 6 _ (fun t _ => flushed6_eq m c t) covered6).trans ?_),
    h7.trans (((dats m 0 c).arrAt_eq_of_cover 7 _ (fun t _ => flushed7_eq m c t) covered7).trans ?_), ha⟩
  · rw [V_main_arg0, V_main_arg1, V_main_arg2, V_main_arg3, V_main_arg4]
  · rw [V_main_arg0, V_main_arg1]
  · rw [V_main_arg1]

end Cert.DownIdeal.Rows

/-! ## The reference -/

namespace Cert.DownRefIdeal.Rows

open Cert.DownRefIdeal Cert.DownRefIdeal.Gen Idealize.ShloMosaic Idealize.ShloMosaic.ValueIdx

variable (h : Vec Ideal S4096x9472 .bf16) (am : Vec Ideal S4096x128 .f32) (w : Vec Ideal S9472x3584 .fp8e4m3)
  (ws : Vec Ideal S1x3584 .f32) (x : Vec Ideal S4096x3584 .bf16)

theorem hz : (![0, 0] : Fin 2 → Nat) = fun _ => 0 := funext fun a => by fin_cases a <;> rfl

/-- The reference's scales. -/
theorem pay5 : k0_pay5 h am w ws x = k0_pay3 am := by
  unfold k0_pay5
  simp only [View.ld_unit_zero (S := S4096x128) hz]

/-- The reference's codes. -/
theorem pay6 : k0_pay6 h am w ws x = k0_pay4 h am := by
  unfold k0_pay6
  simp only [View.ld_unit_zero (S := S4096x128) hz, View.ld_unit_zero (S := S4096x9472) hz]

theorem G7_eq : Value.G7 h am w ws x = Cert.DownIdeal.Rows.scaleW am := by
  unfold Value.G7
  rw [pay5]
  funext j
  obtain ⟨r, k, rfl⟩ : ∃ (r : Fin 4096) (k : Fin 1), j = (ix2 r k : S4096x1.Idx) := ⟨j 0, j 1, eq_ix2 j⟩
  exact scale_apply am r k

theorem G6_eq : Value.G6 h am w ws x = Cert.DownIdeal.Rows.codeW h am := by
  unfold Value.G6
  rw [pay6]
  funext j
  obtain ⟨r, k, rfl⟩ : ∃ (r : Fin 4096) (k : Fin 9472), j = (ix2 r k : S4096x9472.Idx) := ⟨j 0, j 1, eq_ix2 j⟩
  exact code_apply h am r k

theorem G5_eq : Value.G5 h am w ws x = Cert.DownIdeal.Rows.yW h am w ws x := by
  unfold Value.G5
  rw [pay5, pay6]
  funext j
  obtain ⟨r, k, rfl⟩ : ∃ (r : Fin 4096) (k : Fin 3584), j = (ix2 r k : S4096x3584.Idx) := ⟨j 0, j 1, eq_ix2 j⟩
  exact y_apply h am w ws x r k

end Cert.DownRefIdeal.Rows

/-! ## The claim -/

namespace Cert.Proof.Down

open Idealize.ShloMosaic Idealize.ShloMosaic.TcCoe Idealize.SL.Sem

/-- The kernel and the reference end with the same three arrays. -/
theorem algebraic : Cert.algebraic_DownIdeal_DownRefIdeal := by
  intro m ρ m' ρ' _ hagree
  refine ⟨_, _, _, Cert.DownIdeal.Rows.run m ρ, ?_⟩
  refine (θ_run Cert.DownRefIdeal.defs _ _).mono (fun _ h c => ?_) (Cert.DownRefIdeal.Value.run (F := Ideal) m' ρ')
  obtain ⟨h5, h6, h7, ha⟩ := h c
  obtain ⟨e0, e1, e2, e3, e4⟩ := hagree c
  refine ⟨h5.trans ?_, h6.trans ?_, h7.trans ?_, ha⟩
  · rw [Cert.DownRefIdeal.Rows.G5_eq, e0, e1, e2, e3, e4]
  · rw [Cert.DownRefIdeal.Rows.G6_eq, e0, e1]
  · rw [Cert.DownRefIdeal.Rows.G7_eq, e1]

end Cert.Proof.Down

end
-- ==== Proof.lean ====
module

public import proofs.«01_k».proof.Defs
public import proofs.«01_k».proof.Proof.Gen.NormQkv
public import proofs.«01_k».proof.Proof.Gen.NormQkv.Skeleton
public import proofs.«01_k».proof.Proof.Gen.NormQkv.Launch
public import proofs.«01_k».proof.Proof.Gen.NormQkv.Points
public import proofs.«01_k».proof.Proof.Gen.NormQkv.Frame
public import proofs.«01_k».proof.Proof.Gen.NormQkvIdeal
public import proofs.«01_k».proof.Proof.Gen.NormQkvIdeal.Skeleton
public import proofs.«01_k».proof.Proof.Gen.NormQkvIdeal.Launch
public import proofs.«01_k».proof.Proof.Gen.NormQkvIdeal.Points
public import proofs.«01_k».proof.Proof.Gen.NormQkvIdeal.Frame
public import proofs.«01_k».proof.Proof.Gen.NormQkvIdeal.Value
public import proofs.«01_k».proof.Proof.Gen.NormQkvRefIdeal
public import proofs.«01_k».proof.Proof.Gen.NormQkvRefIdeal.Skeleton
public import proofs.«01_k».proof.Proof.Gen.NormQkvRefIdeal.Launch
public import proofs.«01_k».proof.Proof.Gen.NormQkvRefIdeal.Points
public import proofs.«01_k».proof.Proof.Gen.NormQkvRefIdeal.Frame
public import proofs.«01_k».proof.Proof.Gen.NormQkvRefIdeal.Value
public import proofs.«01_k».proof.Proof.Gen.NormQkvRef
public import proofs.«01_k».proof.Proof.Gen.NormQkvRef.Skeleton
public import proofs.«01_k».proof.Proof.Gen.NormQkvRef.Launch
public import proofs.«01_k».proof.Proof.Gen.NormQkvRef.Points
public import proofs.«01_k».proof.Proof.Gen.NormQkvRef.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.GateUpRefIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownRefIdeal.Value
public import proofs.«01_k».proof.Proof.Gen.DownRef
public import proofs.«01_k».proof.Proof.Gen.DownRef.Skeleton
public import proofs.«01_k».proof.Proof.Gen.DownRef.Launch
public import proofs.«01_k».proof.Proof.Gen.DownRef.Points
public import proofs.«01_k».proof.Proof.Gen.DownRef.Frame
public import proofs.«01_k».proof.Proof.NormQkvValue
public import proofs.«01_k».proof.Proof.GateUpBits
public import proofs.«01_k».proof.Proof.GateUpValue
public import proofs.«01_k».proof.Proof.DownValue
public import Idealize.ShloMosaic.Adequacy
public import Idealize.ShloMosaic.Init

@[expose] public section

noncomputable section

namespace Cert.Proof

open Idealize.ShloMosaic Idealize.SL.Sem Cert.NormQkv

theorem claim : Cert.Claim := ⟨Cert.NormQkv.Gen.facts, Cert.NormQkvIdeal.Gen.facts, Cert.NormQkvRefIdeal.Gen.facts, Cert.NormQkvRef.Gen.facts, Cert.GateUp.Gen.facts, Cert.GateUpIdeal.Gen.facts, Cert.GateUpRefIdeal.Gen.facts, Cert.Down.Gen.facts, Cert.DownIdeal.Gen.facts, Cert.DownRefIdeal.Gen.facts, Cert.DownRef.Gen.facts,
  fun m ρ _ => Cert.NormQkv.Gen.frame m ρ,
  fun m ρ _ => Cert.NormQkvIdeal.Gen.frame m ρ,
  fun m ρ _ => Cert.NormQkvRefIdeal.Gen.frame m ρ,
  fun m ρ _ => Cert.NormQkvRef.Gen.frame m ρ,
  fun m ρ _ => Cert.GateUp.Named.frame m ρ,
  fun m ρ _ => Cert.GateUpIdeal.Named.frame m ρ,
  fun m ρ _ => Cert.GateUpRefIdeal.Gen.frame m ρ,
  fun m ρ _ => Cert.Down.Gen.frame m ρ,
  fun m ρ _ => Cert.DownIdeal.Gen.frame m ρ,
  fun m ρ _ => Cert.DownRefIdeal.Gen.frame m ρ,
  fun m ρ _ => Cert.DownRef.Gen.frame m ρ,
  IdealRules.named_const.statement Cert.NormQkvIdeal.κ "inv_d" .f32 0x39924925#32 _ rfl,
  IdealRules.named_const.statement Cert.NormQkvRefIdeal.κ "log2" .f32 0x3F317218#32 _ rfl,
  Cert.Proof.NormQkv.algebraic,
  trivial,
  Cert.Proof.GateUp.algebraic,
  trivial,
  IdealRules.named_const.statement Cert.DownRefIdeal.κ "log2" .f32 0x3F317218#32 _ rfl,
  Cert.Proof.Down.algebraic⟩

end Cert.Proof

end
